-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x50 : Shape := ⟨2, ![16384, 50]⟩
abbrev S1000x128 : Shape := ⟨2, ![1000, 128]⟩
abbrev S128x128 : Shape := ⟨2, ![128, 128]⟩
abbrev S128 : Shape := ⟨1, ![128]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S1000x128 .f32) (main_arg2 : FVec F S128x128 .f32) (main_arg3 : FVec F S128 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 1000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S1000x128 : Shape := ⟨2, ![1000, 128]⟩
abbrev S128x128 : Shape := ⟨2, ![128, 128]⟩
abbrev S128 : Shape := ⟨1, ![128]⟩
abbrev S1x128 : Shape := ⟨2, ![1, 128]⟩
abbrev S50x16384 : Shape := ⟨2, ![50, 16384]⟩
abbrev S50x16384x128 : Shape := ⟨3, ![50, 16384, 128]⟩
abbrev S25600 : Shape := ⟨1, ![25600]⟩
abbrev S256x128 : Shape := ⟨2, ![256, 128]⟩
abbrev S_ : Shape := ⟨0, ![]⟩
abbrev S512 : Shape := ⟨1, ![512]⟩
abbrev S1x512 : Shape := ⟨2, ![1, 512]⟩
abbrev S256 : Shape := ⟨1, ![256]⟩
abbrev S1x256x128 : Shape := ⟨3, ![1, 256, 128]⟩
abbrev S16384x50x128 : Shape := ⟨3, ![16384, 50, 128]⟩

abbrev nBuf : Table → Nat
  | .hbm => 9
  | .local .tc .vmem => 4
  | .shared => 1
  | .local .scVector .vmem => 3
  | _ => 0

abbrev bufTy : (tb : Table) → Fin (nBuf tb) → BufTy
  | .hbm, ⟨0, _⟩ => ⟨S16384x50, .i32⟩
  | .hbm, ⟨1, _⟩ => ⟨S1000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S1000x128, .f32⟩
  | .hbm, ⟨6, _⟩ => ⟨S50x16384, .i32⟩
  | .hbm, ⟨7, _⟩ => ⟨S50x16384x128, .f32⟩
  | .hbm, ⟨8, _⟩ => ⟨S16384x50x128, .f32⟩
  | .local .tc .vmem, ⟨0, _⟩ => ⟨S1000x128, .f32⟩
  | .local .tc .vmem, ⟨1, _⟩ => ⟨S128x128, .f32⟩
  | .local .tc .vmem, ⟨2, _⟩ => ⟨S1x128, .f32⟩
  | .local .tc .vmem, ⟨3, _⟩ => ⟨S1000x128, .f32⟩
  | .shared, ⟨0, _⟩ => ⟨S1000x128, .f32⟩
  | .local .scVector .vmem, ⟨0, _⟩ => ⟨S25600, .i32⟩
  | .local .scVector .vmem, ⟨1, _⟩ => ⟨S256x128, .f32⟩
  | .local .scVector .vmem, ⟨2, _⟩ => ⟨S256x128, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.shared, 0, rfl⟩
abbrev cc1_scratch1 : Ref sig .scVector := ⟨.vmem, 0, rfl⟩
abbrev cc1_scratch2 : Ref sig .scVector := ⟨.vmem, 1, rfl⟩
abbrev cc1_scratch3 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S1000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_2 : BitVec 32 := 0#32
  let c50_i32 : BitVec 32 := 50#32
  let v6 : BitVec 32 := Scalar.addi c0_i32_2 c50_i32
  let c1_i32 : BitVec 32 := 1#32
  ⟨c0_i32_2, v6, c1_i32⟩
def k1_off1 (k1_t1 : Fin k1_t1_loop.trips) : Fin 1 → Nat :=
  let c0_i32_2 : BitVec 32 := 0#32
  let c1_i32 : BitVec 32 := 1#32
  let arg14 : BitVec 32 := Scf.iv c0_i32_2 c1_i32 k1_t1
  let c512_i32_28 : BitVec 32 := 512#32
  let v24 : BitVec 32 := Scalar.muli arg14 c512_i32_28
  ![v24.toNat]
def k1_off2 (i : grid1.Coords) (k1_t1 : Fin k1_t1_loop.trips) : Fin 2 → Nat :=
  let c0_i32_2 : BitVec 32 := 0#32
  let c1_i32 : BitVec 32 := 1#32
  let arg14 : BitVec 32 := Scf.iv c0_i32_2 c1_i32 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![arg14.toNat, v2.toNat]
@[reducible] def k1_t2_loop : Scf.Loop 32 :=
  let c0_i32_5 : BitVec 32 := 0#32
  let c50_i32_6 : BitVec 32 := 50#32
  let v7 : BitVec 32 := Scalar.addi c0_i32_5 c50_i32_6
  let c1_i32_7 : BitVec 32 := 1#32
  ⟨c0_i32_5, v7, c1_i32_7⟩
def k1_off3 (k1_t2 : Fin k1_t2_loop.trips) : Fin 1 → Nat :=
  let c0_i32_5 : BitVec 32 := 0#32
  let c1_i32_7 : BitVec 32 := 1#32
  let arg14 : BitVec 32 := Scf.iv c0_i32_5 c1_i32_7 k1_t2
  let c512_i32_28 : BitVec 32 := 512#32
  let v24 : BitVec 32 := Scalar.muli arg14 c512_i32_28
  ![v24.toNat]
def k1_off4 (i : grid1.Coords) (k1_t2 : Fin k1_t2_loop.trips) : Fin 2 → Nat :=
  let c0_i32_5 : BitVec 32 := 0#32
  let c1_i32_7 : BitVec 32 := 1#32
  let arg14 : BitVec 32 := Scf.iv c0_i32_5 c1_i32_7 k1_t2
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![arg14.toNat, v2.toNat]
def k1_off5 (c0_i32_9 : BitVec 32) : Fin 1 → Nat :=
  let c49_i32 : BitVec 32 := 49#32
  let v8 : BitVec 32 := Scalar.minsi c0_i32_9 c49_i32
  let c512_i32_10 : BitVec 32 := 512#32
  let v9 : BitVec 32 := Scalar.muli v8 c512_i32_10
  let c0_i32_11 : BitVec 32 := 0#32
  let v10 : BitVec 32 := Scalar.addi v9 c0_i32_11
  ![v10.toNat]
@[reducible] def k1_t3_loop : Scf.Loop 32 :=
  let c0_i32_15 : BitVec 32 := 0#32
  let c50_i32_16 : BitVec 32 := 50#32
  let v13 : BitVec 32 := Scalar.addi c0_i32_15 c50_i32_16
  let c1_i32_17 : BitVec 32 := 1#32
  ⟨c0_i32_15, v13, c1_i32_17⟩
def k1_off6 (k1_t3 : Fin k1_t3_loop.trips) (c0_i32_30 : BitVec 32) : Fin 1 → Nat :=
  let c0_i32_15 : BitVec 32 := 0#32
  let c1_i32_17 : BitVec 32 := 1#32
  let arg14 : BitVec 32 := Scf.iv c0_i32_15 c1_i32_17 k1_t3
  let c49_i32_28 : BitVec 32 := 49#32
  let v24 : BitVec 32 := Scalar.minsi arg14 c49_i32_28
  let c512_i32_29 : BitVec 32 := 512#32
  let v25 : BitVec 32 := Scalar.muli v24 c512_i32_29
  let v26 : BitVec 32 := Scalar.addi v25 c0_i32_30
  ![v26.toNat]
def k1_cond2 (k1_t3 : Fin k1_t3_loop.trips) : BitVec 1 :=
  let c0_i32_15 : BitVec 32 := 0#32
  let c1_i32_17 : BitVec 32 := 1#32
  let arg14 : BitVec 32 := Scf.iv c0_i32_15 c1_i32_17 k1_t3
  let c0_i32_33 : BitVec 32 := 0#32
  let v29 : BitVec 1 := Scalar.cmpi .sgt arg14 c0_i32_33
  let v30 : BitVec 32 := Scalar.extui v29
  let c0_i32_34 : BitVec 32 := 0#32
  let v31 : BitVec 1 := Scalar.cmpi .ne v30 c0_i32_34
  v31

def k1_off7 (i : grid1.Coords) (k1_t3 : Fin k1_t3_loop.trips) : Fin 3 → Nat :=
  let c0_i32_15 : BitVec 32 := 0#32
  let c1_i32_17 : BitVec 32 := 1#32
  let arg14 : BitVec 32 := Scf.iv c0_i32_15 c1_i32_17 k1_t3
  let c1_i32_60 : BitVec 32 := 1#32
  let v63 : BitVec 32 := Scalar.subi arg14 c1_i32_60
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_61 : BitVec 32 := 256#32
  let v64 : BitVec 32 := Scalar.addi v2 c256_i32_61
  let c0_i32_62 : BitVec 32 := 0#32
  ![v63.toNat, v64.toNat, 0]
def k1_off8 (i : grid1.Coords) (k1_t3 : Fin k1_t3_loop.trips) (c0_i32_40 : BitVec 32) : Fin 3 → Nat :=
  let c0_i32_15 : BitVec 32 := 0#32
  let c1_i32_17 : BitVec 32 := 1#32
  let arg14 : BitVec 32 := Scf.iv c0_i32_15 c1_i32_17 k1_t3
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v37 : BitVec 32 := Scalar.addi v2 c0_i32_40
  let c0_i32_41 : BitVec 32 := 0#32
  ![arg14.toNat, v37.toNat, 0]
def k1_off9 (k1_t3 : Fin k1_t3_loop.trips) : Fin 1 → Nat :=
  let c0_i32_15 : BitVec 32 := 0#32
  let c1_i32_17 : BitVec 32 := 1#32
  let arg14 : BitVec 32 := Scf.iv c0_i32_15 c1_i32_17 k1_t3
  let c1_i32_51 : BitVec 32 := 1#32
  let v52 : BitVec 32 := Scalar.addi arg14 c1_i32_51
  let c49_i32_52 : BitVec 32 := 49#32
  let v53 : BitVec 32 := Scalar.minsi v52 c49_i32_52
  let c512_i32_53 : BitVec 32 := 512#32
  let v54 : BitVec 32 := Scalar.muli v53 c512_i32_53
  let c0_i32_54 : BitVec 32 := 0#32
  let v55 : BitVec 32 := Scalar.addi v54 c0_i32_54
  ![v55.toNat]
def k1_off10 (i : grid1.Coords) : Fin 3 → Nat :=
  let c49_i32_19 : BitVec 32 := 49#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v14 : BitVec 32 := Scalar.addi v2 c256_i32
  let c0_i32_20 : BitVec 32 := 0#32
  ![49, v14.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x50 : Shape := ⟨2, ![16384, 50]⟩
abbrev S1000x128 : Shape := ⟨2, ![1000, 128]⟩
abbrev S128x128 : Shape := ⟨2, ![128, 128]⟩
abbrev S128 : Shape := ⟨1, ![128]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000x128, .f32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S16384x50, .i32⟩
  | .hbm, ⟨6, _⟩ => ⟨S16384x50, .i1⟩
  | .hbm, ⟨7, _⟩ => ⟨S_, .i32⟩
  | .hbm, ⟨8, _⟩ => ⟨S16384x50, .i32⟩
  | .hbm, ⟨9, _⟩ => ⟨S16384x50, .i32⟩
  | .hbm, ⟨10, _⟩ => ⟨S16384x50, .i32⟩
  | .hbm, ⟨11, _⟩ => ⟨S16384x50x1, .i32⟩
  | .hbm, ⟨12, _⟩ => ⟨S1, .i32⟩
  | .hbm, ⟨13, _⟩ => ⟨S_, .i32⟩
  | .hbm, ⟨14, _⟩ => ⟨S16384x50x1, .i32⟩
  | .hbm, ⟨15, _⟩ => ⟨S16384x50x1, .i1⟩
  | .hbm, ⟨16, _⟩ => ⟨S1x1x1, .i32⟩
  | .hbm, ⟨17, _⟩ => ⟨S16384x50x1, .i32⟩
  | .hbm, ⟨18, _⟩ => ⟨S16384x50x1, .i1⟩
  | .hbm, ⟨19, _⟩ => ⟨S16384x50x1, .i1⟩
  | .hbm, ⟨20, _⟩ => ⟨S_, .i1⟩
  | .hbm, ⟨21, _⟩ => ⟨S16384x50, .i1⟩
  | .hbm, ⟨22, _⟩ => ⟨S16384x50x128, .f32⟩
  | .hbm, ⟨23, _⟩ => ⟨S16384x50x128, .i1⟩
  | .hbm, ⟨24, _⟩ => ⟨S_, .f32⟩
  | .hbm, ⟨25, _⟩ => ⟨S16384x50x128, .f32⟩
  | .hbm, ⟨26, _⟩ => ⟨S16384x50x128, .f32⟩
  | .hbm, ⟨27, _⟩ => ⟨S16384x50x128, .f32⟩
  | .hbm, ⟨28, _⟩ => ⟨S1x1x128, .f32⟩
  | .hbm, ⟨29, _⟩ => ⟨S16384x50x128, .f32⟩
  | .hbm, ⟨30, _⟩ => ⟨S16384x50x128, .f32⟩
  | .hbm, ⟨31, _⟩ => ⟨S_, .f32⟩
  | .hbm, ⟨32, _⟩ => ⟨S16384x50x128, .f32⟩
  | .hbm, ⟨33, _⟩ => ⟨S16384x50x128, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_cst : Ref sig .tc := ⟨.hbm, 31, rfl⟩
abbrev main_call1_v0 : Ref sig .tc := ⟨.hbm, 32, rfl⟩
abbrev main_v5 : Ref sig .tc := ⟨.hbm, 33, rfl⟩

abbrev nD : Nat := 1
abbrev τ : Topo := Topo.v7x

variable {F : FTy → Type} [FloatOps F]
-- ==== Proof.Setup.lean ====
/-
  What the certificate's parts share: the program as the launch theorem sees it, the resource algebra, the contents
  every buffer takes (the table of transformed rows, the transposed indices, the gathered rows), the sets of elements
  each tile works on, the subcore barrier's schedule and what each handshake carries.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP (F : FTy → Type) [FloatOps F] : Labels := Pipeline.Sig Λ₀ (Fin 1) fun p => (pcfgs (F := F) p).Adm
abbrev K : SparseCore.Cfg τ sig (ΛP F) 1 := sc (F := F)
abbrev coreOf (c : Fin ((K (F := F)).nCore 0)) : Fin τ.nSC := (K (F := F)).core 0 c
abbrev subOf (i : Fin ((K (F := F)).nSub 0)) : Fin τ.nSub := (K (F := F)).sub 0 i
abbrev D : Defs nD τ sig (Elt F) (ΛP F) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the barrier's, the TensorCore pipeline's, the transfers' counters -/

abbrev UH : Type := URounds (GSem nD τ sig) ℕ
abbrev UB : Type := URounds (GSem nD τ sig) ℕ
abbrev UP : Type := URounds (GSem nD τ sig) Unit
abbrev UU : Type := UH × (UB × (UP × Counters))

abbrev MM (F : FTy → Type) : Type := MT nD τ sig (HIx 1) (Elt F) ℕ UU ℕ

local notation "𝕄" => MM F

abbrev EH : Emb UH (MM F) := embL
/-- The barrier's rounds, in the second factor. -/
def EB : Emb UB (MM F) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline's rounds, in the third. -/
def EP : Emb UP (MM F) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

abbrev eLoc (d : Dev nD) : Loc nD τ sig := (SparseCore.T d).loc main_v1
abbrev xLoc (d : Dev nD) : Loc nD τ sig := (SparseCore.T d).loc main_v2
abbrev oLoc (d : Dev nD) : Loc nD τ sig := (SparseCore.T d).loc main_v3

/-- SparseCore `c`'s shared scratch, as each of its tiles and its sequencer address it. -/
abbrev shRef (c : Fin τ.nSC) : DevRef τ sig := ⟨.shared, ⟨0, by decide⟩, c⟩
abbrev shLoc (d : Dev nD) (c : Fin τ.nSC) : Loc nD τ sig := (d, shRef c)

/-! ## The contents -/

/-- The shapes' types of contents: the table of rows, the transposed indices, the gathered rows. -/
abbrev Tab (F : FTy → Type) : Type := Vec F S1000x128 .f32
abbrev Ids (F : FTy → Type) : Type := Vec F S50x16384 .i32
abbrev Outs (F : FTy → Type) : Type := Vec F S50x16384x128 .f32

/-- The table of transformed rows, of the launch's table, matrix and bias. -/
def tabOf (e : Vec F S1000x128 .f32) (w : Vec F S128x128 .f32) (b : Vec F S128 .f32) : Tab F :=
  k0_pay1 e w (shapeCast S1x128 b shapeCasts_S128_S1x128)
/-- The indices, transposed. -/
def idsOf (x : Vec F S16384x50 .i32) : Ids F := transpose S50x16384 [1, 0] x transposes_S16384x50_S50x16384_1_0
/-- The row number an index word names: its value, brought in range (an index in range is itself). -/
def rowNo (w : BitVec 32) : Fin 1000 := ⟨w.toNat % 1000, Nat.mod_lt _ (by decide)⟩
/-- The gathered rows: at `(h, b)` the row of the table that the index at `(h, b)` names. -/
def rowsOf (tab : Tab F) (ids : Ids F) : Outs F := fun x => tab (ix2 (rowNo (ids (ix2 (x 0) (x 1)))) (x 2))

variable (m : (ℓ : Loc nD τ sig) → Buf (Elt F) ℓ)

def tabF (d : Dev nD) : Tab F := tabOf (m ((SparseCore.T d).loc main_arg1)) (m ((SparseCore.T d).loc main_arg2)) (m ((SparseCore.T d).loc main_arg3))
def idsF (d : Dev nD) : Ids F := idsOf (m ((SparseCore.T d).loc main_arg0))
def outF (d : Dev nD) : Outs F := rowsOf (tabF m d) (idsF m d)

/-! ## The sets of elements -/

/-- Columns `b` to `b + 511` of every row of the indices: one tile's. -/
def xTile (b : ℕ) : Finset S50x16384.Idx := Finset.univ.filter fun x => b ≤ (x 1).val ∧ (x 1).val < b + 512
/-- Those of row `h`. -/
def xRow (b h : ℕ) : Finset S50x16384.Idx := Finset.univ.filter fun x => (x 0).val = h ∧ b ≤ (x 1).val ∧ (x 1).val < b + 512
/-- Positions `b` to `b + 511` of every row of the output: one tile's. -/
def oTile (b : ℕ) : Finset S50x16384x128.Idx := Finset.univ.filter fun x => b ≤ (x 1).val ∧ (x 1).val < b + 512
/-- Positions `b` to `b + 255` of row `h` of the output: what one copy out writes. -/
def oBlk (b h : ℕ) : Finset S50x16384x128.Idx := Finset.univ.filter fun x => (x 0).val = h ∧ b ≤ (x 1).val ∧ (x 1).val < b + 256
/-- Elements `a` to `a + n - 1` of a tile's list of indices. -/
def seg (a n : ℕ) : Finset S25600.Idx := Finset.univ.filter fun x => a ≤ (x 0).val ∧ (x 0).val < a + n

theorem mem_xTile {b : ℕ} {x : S50x16384.Idx} : x ∈ xTile b ↔ b ≤ (x 1).val ∧ (x 1).val < b + 512 := by simp [xTile]
theorem mem_xRow {b h : ℕ} {x : S50x16384.Idx} : x ∈ xRow b h ↔ (x 0).val = h ∧ b ≤ (x 1).val ∧ (x 1).val < b + 512 := by simp [xRow]
theorem mem_oTile {b : ℕ} {x : S50x16384x128.Idx} : x ∈ oTile b ↔ b ≤ (x 1).val ∧ (x 1).val < b + 512 := by simp [oTile]
theorem mem_oBlk {b h : ℕ} {x : S50x16384x128.Idx} : x ∈ oBlk b h ↔ (x 0).val = h ∧ b ≤ (x 1).val ∧ (x 1).val < b + 256 := by simp [oBlk]
theorem mem_seg {a n : ℕ} {x : S25600.Idx} : x ∈ seg a n ↔ a ≤ (x 0).val ∧ (x 0).val < a + n := by simp [seg]

/-- The first position of tile `(c, i)`. -/
def base (c i : ℕ) : ℕ := 1024 * i + 512 * c

/-! ## The subcore barrier -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s share of its SparseCore's copy of the table. -/
abbrev shPiece (d : Dev nD) (c : Fin τ.nSC) (j : Fin 16) (f : Buf (Elt F) (shLoc d c)) : sProp 𝕄 :=
  shLoc d c ↦{pieceOf fullShare 16 (by decide) j} f

/-- What a duty in tile `j`'s round hands over: tile 0's, tile `j`'s share of the copied table; the others', nothing. -/
def bPay (g : GSem nD τ sig) (n : ℕ) : sProp 𝕄 :=
  match g with
  | ((d, .scVector c j), _) => if n = 0 then shPiece d c (Fin.cast rfl j) (tabF m d) else iprop(emp)
  | _ => iprop(emp)

/-- The barrier's schedule: one round on each tile's cell, of one unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd m).duties (bcell d c j) 0 = (Finset.univ : Finset (Fin τ.nSub)).image Fin.val := by
  simp [bRd, isBar]
theorem bRd_duties_succ (g : GSem nD τ sig) (r : ℕ) (hr : 1 ≤ r) : (bRd m).duties g r = ∅ :=
  if_neg fun h => absurd h.2 (Nat.ne_of_gt hr)
theorem bRd_mem₀ (d : Dev nD) (c : Fin τ.nSC) (j i : Fin τ.nSub) : i.val ∈ (bRd m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes at the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) :
    ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals tile `(c, i)` for the barrier: every cell's invariant of its SparseCore and that each has reached
    round 0, its own position, its token in every tile's round, and the credit for its own round's units. -/
def bkit (d : Dev nD) (c : Fin τ.nSC) (i : Fin τ.nSub) : sProp 𝕄 :=
  iprop((∃ κ : GSem nD τ sig → ℕ, bigSep Finset.univ fun j : Fin (grid1.bound 1) =>
      cellInv EB (bRd m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- A tile's part of the operands: a share of the table, its columns of the indices and its part of the output. -/
abbrev opsPts (d : Dev nD) (c i : ℕ) : sProp 𝕄 :=
  iprop((xLoc d ↦[xTile (base c i)]{fullShare} (idsF m d : Buf (Elt F) (xLoc d))) ∗ oLoc d ↦[oTile (base c i)]{fullShare} m (oLoc d))
/-- Core `c`'s share of the table. -/
abbrev tabPts (d : Dev nD) (c : Fin 2) : sProp 𝕄 := eLoc d ↦{pieceOf fullShare 2 (by decide) c} (tabF m d : Buf (Elt F) (eLoc d))
/-- A tile's part of the output, gathered. -/
abbrev donePts (d : Dev nD) (c i : ℕ) : sProp 𝕄 := oLoc d ↦[oTile (base c i)]{fullShare} (outF m d : Buf (Elt F) (oLoc d))
/-- What tile 0 takes besides: the core's share of the table and the shared scratch. -/
abbrev headPts (d : Dev nD) (c : Fin τ.nSC) : sProp 𝕄 := iprop(tabPts m d (Fin.cast rfl c) ∗ ∃ f, shLoc d c ↦{fullShare} f)
abbrev headOf (d : Dev nD) (c : Fin τ.nSC) (i : ℕ) : sProp 𝕄 := if i = 0 then headPts m d c else iprop(emp)

set_option backward.proofsInPublic true in
/-- The one call takes, per SparseCore, a share of the table, its tiles' columns of the indices and their parts of the output;
    it brings the output's back at the gathered rows, with the barrier's semaphores at zero. -/
def P : (K (F := F)).Pay (nD := nD) (Val := Elt F) (Name := ℕ) (U := UU) where
  st := fun q d c => match q with
    | 0 => iprop(tabPts m d (Fin.cast rfl (coreOf (F := F) c)) ∗ bigSep Finset.univ fun i : Fin ((K (F := F)).nSub 0) => opsPts m d c.val i.val)
  dn := fun q d c => match q with
    | 0 => bigSep Finset.univ fun i : Fin ((K (F := F)).nSub 0) => iprop(donePts m d c.val i.val ∗ semVal (bcell d (coreOf (F := F) c) (subOf (F := F) i)) 0)
  go := fun q d c i => match q with
    | 0 => iprop(opsPts m d c.val i.val ∗ headOf m d (coreOf (F := F) c) i.val)
  td := fun q d c i => match q with
    | 0 => iprop((donePts m d c.val i.val ∗ semVal (bcell d (coreOf (F := F) c) (subOf (F := F) i)) 0)
        ∗ shPiece d (coreOf (F := F) c) (Fin.cast rfl (subOf (F := F) i)) (tabF m d))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance headOf_storable (d : Dev nD) (c : Fin τ.nSC) (i : ℕ) : BI.Storable (upEmb : UEmb _ 𝕄) (headOf m d c i) := by
  unfold headOf; split <;> infer_instance

instance P_storable : (P m).IsStorable where
  st q d c := match q with
    | 0 => (inferInstance : BI.Storable (upEmb : UEmb _ 𝕄)
      iprop(tabPts m d (Fin.cast rfl (coreOf (F := F) c)) ∗ bigSep Finset.univ fun i : Fin ((K (F := F)).nSub 0) => opsPts m d c.val i.val))
  dn q d c := match q with
    | 0 => (inferInstance : BI.Storable (upEmb : UEmb _ 𝕄)
      (bigSep Finset.univ fun i : Fin ((K (F := F)).nSub 0) => iprop(donePts m d c.val i.val ∗ semVal (bcell d (coreOf (F := F) c) (subOf (F := F) i)) 0)))
  go q d c i := match q with
    | 0 => (inferInstance : BI.Storable (upEmb : UEmb _ 𝕄) iprop(opsPts m d c.val i.val ∗ headOf m d (coreOf (F := F) c) i.val))
  td q d c i := match q with
    | 0 => (inferInstance : BI.Storable (upEmb : UEmb _ 𝕄)
      iprop((donePts m d c.val i.val ∗ semVal (bcell d (coreOf (F := F) c) (subOf (F := F) i)) 0)
        ∗ shPiece d (coreOf (F := F) c) (Fin.cast rfl (subOf (F := F) i)) (tabF m d)))

end Cert.Proof
end
-- ==== Proof.Views.lean ====
/-
  The pieces of the buffers a tile's copies name, as sets of elements, and what each copy leaves in them: the fetched list
  of indices, the rows a gather delivers and the rows a copy out writes.
-/
module

public import proofs.«01_k».proof.Proof.Setup

@[expose] public section

noncomputable section

namespace Cert.Proof

open Cert.KernelIdeal Cert.KernelIdeal.Gen

open Idealize.ShloMosaic Idealize.ShloMosaic.ValueIdx
open Idealize.ShloMosaic.SparseCore (gatherPayload rows)

variable {F : FTy → Type} [FloatOps F]

/-! ## The views -/

abbrev eV : Memref sig .scVector .hbm S1000x128 .f32 := Memref.whole main_v1_scv
abbrev xV : Memref sig .scVector .hbm S50x16384 .i32 := Memref.whole main_v2_scv
abbrev oV : Memref sig .scVector .hbm S50x16384x128 .f32 := Memref.whole main_v3_scv
abbrev shV : Memref sig .scVector .shared S1000x128 .f32 := Memref.whole cc1_scratch0
abbrev lV : Memref sig .scVector .vmem S25600 .i32 := Memref.whole cc1_scratch1
abbrev aV : Memref sig .scVector .vmem S256x128 .f32 := Memref.whole cc1_scratch2
abbrev bV : Memref sig .scVector .vmem S256x128 .f32 := Memref.whole cc1_scratch3

/-- The whole of the shared copy of the table, as a gather names it. -/
abbrev shM : Memref sig .scVector .shared S1000x128 .f32 :=
  (shV).slice (Rect.unit (s := S1000x128) ![0, 0] S1000x128.size inb_S1000x128_S1000x128_0_0) (fun _ => rfl)
/-- 512 indices of one row of the transposed indices. -/
abbrev xRowM (off : Fin 2 → ℕ) (inb : ∀ a, off a + S1x512.size a ≤ S50x16384.size a) : Memref sig .scVector .hbm S512 .i32 :=
  ((xV).slice (Rect.unit (s := S50x16384) off S1x512.size inb) (fun _ => rfl)).squeeze S512 squeezes_S1x512_S512
/-- 512 elements of the list. -/
abbrev seg512M (off : Fin 1 → ℕ) (inb : ∀ a, off a + S512.size a ≤ S25600.size a) : Memref sig .scVector .vmem S512 .i32 :=
  (lV).slice (Rect.unit (s := S25600) off S512.size inb) (fun _ => rfl)
/-- 256 elements of the list: one gather's. -/
abbrev seg256M (off : Fin 1 → ℕ) (inb : ∀ a, off a + S256.size a ≤ S25600.size a) : Memref sig .scVector .vmem S256 .i32 :=
  (lV).slice (Rect.unit (s := S25600) off S256.size inb) (fun _ => rfl)
/-- 256 positions of one row of the output. -/
abbrev oRowM (off : Fin 3 → ℕ) (inb : ∀ a, off a + S1x256x128.size a ≤ S50x16384x128.size a) : Memref sig .scVector .hbm S256x128 .f32 :=
  ((oV).slice (Rect.unit (s := S50x16384x128) off S1x256x128.size inb) (fun _ => rfl)).squeeze S256x128 squeezes_S1x256x128_S256x128

/-! ## Their sets of elements -/

theorem set_shM : (shM).view.set = Finset.univ := by
  show ((View.whole cc1_scratch0).slice _).set = _
  rw [View.set_slice_whole]
  ext x; simp only [Rect.mem_set_unit, Finset.mem_univ, iff_true]
  intro a; match a with
  | 0 => exact ⟨Nat.zero_le _, show (x 0).val < 0 + 1000 by rw [Nat.zero_add]; exact (x 0).isLt⟩
  | 1 => exact ⟨Nat.zero_le _, show (x 1).val < 0 + 128 by rw [Nat.zero_add]; exact (x 1).isLt⟩

theorem set_xRowM {off : Fin 2 → ℕ} {inb} {h b : ℕ} (e : off = ![h, b]) : (xRowM off inb).view.set = xRow b h := by
  subst e
  show (((View.whole main_v2_scv).slice (Rect.unit (s := S50x16384) ![h, b] S1x512.size inb)).reshape S512 squeezes_S1x512_S512.numel_eq).set = _
  rw [View.set_reshape, View.set_slice_whole]
  ext x; rw [mem_xRow, Rect.mem_set_unit]
  constructor
  · intro H
    have h0 : h ≤ (x 0).val ∧ (x 0).val < h + 1 := H 0
    exact ⟨by omega, H 1⟩
  · rintro ⟨h0, h1⟩ a
    match a with
    | 0 => exact show h ≤ (x 0).val ∧ (x 0).val < h + 1 by omega
    | 1 => exact h1

theorem set_seg512M {off : Fin 1 → ℕ} {inb} {a : ℕ} (e : off = ![a]) : (seg512M off inb).view.set = seg a 512 := by
  subst e
  show ((View.whole cc1_scratch1).slice _).set = _
  rw [View.set_slice_whole]
  ext x; rw [mem_seg, Rect.mem_set_unit]
  exact ⟨fun H => H 0, fun H z => match z with | 0 => H⟩

theorem set_seg256M {off : Fin 1 → ℕ} {inb} {a : ℕ} (e : off = ![a]) : (seg256M off inb).view.set = seg a 256 := by
  subst e
  show ((View.whole cc1_scratch1).slice _).set = _
  rw [View.set_slice_whole]
  ext x; rw [mem_seg, Rect.mem_set_unit]
  exact ⟨fun H => H 0, fun H z => match z with | 0 => H⟩

theorem set_oRowM {off : Fin 3 → ℕ} {inb} {h b : ℕ} (e : off = ![h, b, 0]) : (oRowM off inb).view.set = oBlk b h := by
  subst e
  show (((View.whole main_v3_scv).slice (Rect.unit (s := S50x16384x128) ![h, b, 0] S1x256x128.size inb)).reshape S256x128 squeezes_S1x256x128_S256x128.numel_eq).set = _
  rw [View.set_reshape, View.set_slice_whole]
  ext x; rw [mem_oBlk, Rect.mem_set_unit]
  constructor
  · intro H
    have h0 : h ≤ (x 0).val ∧ (x 0).val < h + 1 := H 0
    have h1 : b ≤ (x 1).val ∧ (x 1).val < b + 256 := H 1
    exact ⟨by omega, h1⟩
  · rintro ⟨h0, h1⟩ a
    match a with
    | 0 => exact show h ≤ (x 0).val ∧ (x 0).val < h + 1 by omega
    | 1 => exact h1
    | 2 => exact show 0 ≤ (x 2).val ∧ (x 2).val < 0 + 128 from ⟨Nat.zero_le _, by rw [Nat.zero_add]; exact (x 2).isLt⟩

/-! ## Where an index of a view lies -/

theorem emb_xRowM {off : Fin 2 → ℕ} {inb} (j : S512.Idx) :
    ((xRowM off inb).view.emb j : S50x16384.Idx) = ix2 ⟨off 0, by have := inb 0; simp at this; omega⟩
      ⟨off 1 + (j 0).val, by have := inb 1; have := (j 0).isLt; simp at *; omega⟩ := by
  show (Rect.unit (s := S50x16384) off S1x512.size inb).emb (Shape.reshapeEquiv squeezes_S1x512_S512.numel_eq j) = _
  have hr : Shape.reshapeEquiv squeezes_S1x512_S512.numel_eq j = (ix2 (0 : Fin 1) (j 0) : S1x512.Idx) :=
    Shape.reshapeEquiv_eq_of_rowMajor _ (by
      rw [Shape.rowMajor_val_two, Shape.rowMajor_val_one]
      show 0 * 512 + (j 0).val = (j 0).val
      omega)
  rw [hr]
  funext a; apply Fin.ext
  rw [Rect.emb_apply]
  match a with
  | 0 => exact show off 0 + 1 * 0 = off 0 by omega
  | 1 => exact show off 1 + 1 * (j 0).val = off 1 + (j 0).val by omega

theorem emb_seg512M {off : Fin 1 → ℕ} {inb} (j : S512.Idx) : ((((seg512M off inb).view.emb j : S25600.Idx)) 0).val = off 0 + (j 0).val := by
  show ((Rect.unit (s := S25600) off S512.size inb).emb j 0).val = _
  rw [Rect.emb_apply]; exact show off 0 + 1 * (j 0).val = _ by omega

theorem emb_seg256M {off : Fin 1 → ℕ} {inb} (j : S256.Idx) : ((((seg256M off inb).view.emb j : S25600.Idx)) 0).val = off 0 + (j 0).val := by
  show ((Rect.unit (s := S25600) off S256.size inb).emb j 0).val = _
  rw [Rect.emb_apply]; exact show off 0 + 1 * (j 0).val = _ by omega

theorem emb_shM (j : S1000x128.Idx) : ((shM).view.emb j : S1000x128.Idx) = j := by
  show (Rect.unit (s := S1000x128) ![0, 0] S1000x128.size inb_S1000x128_S1000x128_0_0).emb j = j
  funext a; apply Fin.ext
  rw [Rect.emb_apply]
  match a with
  | 0 => exact show 0 + 1 * (j 0).val = (j 0).val by omega
  | 1 => exact show 0 + 1 * (j 1).val = (j 1).val by omega

theorem emb_oRowM {off : Fin 3 → ℕ} {inb} (j : S256x128.Idx) :
    ((((oRowM off inb).view.emb j : S50x16384x128.Idx)) 0).val = off 0
      ∧ ((((oRowM off inb).view.emb j : S50x16384x128.Idx)) 1).val = off 1 + (j 0).val
      ∧ ((((oRowM off inb).view.emb j : S50x16384x128.Idx)) 2).val = off 2 + (j 1).val := by
  have hr : Shape.reshapeEquiv squeezes_S1x256x128_S256x128.numel_eq j = (ix3 (0 : Fin 1) (j 0) (j 1) : S1x256x128.Idx) :=
    Shape.reshapeEquiv_eq_of_rowMajor _ (by
      rw [Shape.rowMajor_val_three, Shape.rowMajor_val_two]
      show ((0 * 256 + (j 0).val) * 128 + (j 1).val) = (j 0).val * 128 + (j 1).val
      omega)
  have he : ∀ a, (((Rect.unit (s := S50x16384x128) off S1x256x128.size inb).emb (Shape.reshapeEquiv squeezes_S1x256x128_S256x128.numel_eq j)) a).val
      = off a + 1 * ((ix3 (0 : Fin 1) (j 0) (j 1) : S1x256x128.Idx) a).val := fun a => by rw [hr, Rect.emb_apply]; rfl
  refine ⟨(he 0).trans ?_, (he 1).trans ?_, (he 2).trans ?_⟩
  · exact show off 0 + 1 * 0 = off 0 by omega
  · exact show off 1 + 1 * (j 0).val = off 1 + (j 0).val by omega
  · exact show off 2 + 1 * (j 1).val = off 2 + (j 1).val by omega

/-! ## The contents -/

/-- A tile's list of indices: row `k / 512`, position `b + k % 512` of the transposed indices. -/
def listOf (ids : Ids F) (b : ℕ) : Vec F S25600 .i32 := fun k =>
  ids (ix2 ⟨(k 0).val / 512, by have : (k 0).val < 25600 := (k 0).isLt; omega⟩ ⟨(b + (k 0).val % 512) % 16384, Nat.mod_lt _ (by decide)⟩)

/-- The rows of the table that 256 elements of a list, from `a`, name. -/
def gat (tab : Tab F) (lst : Vec F S25600 .i32) (a : ℕ) : Vec F S256x128 .f32 := fun x =>
  tab (ix2 (rowNo (lst (ix1 ⟨(a + (x 0).val) % 25600, Nat.mod_lt _ (by decide)⟩))) (x 1))

/-- A fetch leaves the row's indices in the list's elements it writes. -/
theorem fetch_val (ids : Ids F) (b t : ℕ) (hb : b + 512 ≤ 16384) {off : Fin 2 → ℕ} {inb} {offl : Fin 1 → ℕ} {inbl} (e : off = ![t, b]) (el : offl = ![512 * t])
    (f : Vec F S25600 .i32) : ∀ i ∈ seg (512 * t) 512,
      (seg512M offl inbl).view.write (Elt F) f ((xRowM off inb).view.read (Elt F) ids) Finset.univ i = listOf ids b i := by
  intro i hi
  rw [← set_seg512M (off := offl) (inb := inbl) el] at hi
  obtain ⟨j, -, rfl⟩ := Finset.mem_map.mp hi
  have hj : (j 0).val < 512 := (j 0).isLt
  have hv := emb_seg512M (off := offl) (inb := inbl) j
  rw [View.write_emb_of_mem _ _ (Finset.mem_univ j)]
  show ids ((xRowM off inb).view.emb j) = listOf ids b ((seg512M offl inbl).view.emb j)
  rw [emb_xRowM]
  unfold listOf
  subst e el
  have hv' : ((((seg512M ![512 * t] inbl).view.emb j : S25600.Idx)) 0).val = 512 * t + (j 0).val := hv
  refine congrArg ids (congr (congrArg ix2 (Fin.ext ?_)) (Fin.ext ?_))
  · show t = ((((seg512M ![512 * t] inbl).view.emb j : S25600.Idx)) 0).val / 512
    rw [hv']; omega
  · show b + (j 0).val = (b + ((((seg512M ![512 * t] inbl).view.emb j : S25600.Idx)) 0).val % 512) % 16384
    rw [hv']; omega

/-- A gather through 256 elements of a list in range leaves the rows they name. -/
theorem gather_val (tab : Tab F) (lst : Vec F S25600 .i32) (hl : ∀ k, (lst k : BitVec 32).toNat < 1000) (a : ℕ) {off : Fin 1 → ℕ} {inb} (e : off = ![a])
    {hn : S256.numel = S256x128.size gathers_S1000x128_S256x128.axis'}
    {hin : ∀ x, ((seg256M off inb).view.read (Elt F) lst x : BitVec 32).toNat < S1000x128.size gathers_S1000x128_S256x128.axis} :
    gatherPayload gathers_S1000x128_S256x128 ((shM).view.read (Elt F) tab) (rows ((seg256M off inb).view.read (Elt F) lst) hn hin) = gat tab lst a := by
  have ha : a + 256 ≤ 25600 := by have := inb 0; subst e; simpa using this
  funext x
  show tab ((shM).view.emb _) = _
  rw [emb_shM]
  unfold gat
  refine congrArg tab (funext fun d => Fin.ext ?_)
  match d with
  | 0 =>
    refine (congrArg Fin.val (Shape.Gathers.idx_axis gathers_S1000x128_S256x128 _ x)).trans ?_
    show (lst ((seg256M off inb).view.emb _) : BitVec 32).toNat = (lst _ : BitVec 32).toNat % 1000
    rw [Nat.mod_eq_of_lt (hl _)]
    refine congrArg (fun k => (lst k : BitVec 32).toNat) (funext fun z => ?_)
    obtain rfl : z = (0 : Fin 1) := Subsingleton.elim (α := Fin 1) _ _
    apply Fin.ext
    have hs : ((S256.rowMajor.symm (Fin.cast hn.symm (x gathers_S1000x128_S256x128.axis'))) 0).val = (x 0).val := by
      rw [← Shape.rowMajor_val_one]
      show (S256.rowMajor (S256.rowMajor.symm _)).val = _
      rw [Equiv.apply_symm_apply]; rfl
    refine (emb_seg256M _).trans ?_
    rw [hs]
    subst e
    show a + (x 0).val = (a + (x 0).val) % 25600
    have : (x 0).val < 256 := (x 0).isLt
    omega
  | 1 => exact Shape.Gathers.idx_of_ne gathers_S1000x128_S256x128 _ x 1 (by decide)

/-- A copy out of the rows gathered for positions `p` on of row `t` writes the output's. -/
theorem out_val (tab : Tab F) (ids : Ids F) (b t r : ℕ) (hr : r < 2) (hb : b + 512 ≤ 16384) (ht : t < 50) {off : Fin 3 → ℕ} {inb} (e : off = ![t, b + 256 * r, 0])
    (f : Outs F) : ∀ i ∈ oBlk (b + 256 * r) t,
      (oRowM off inb).view.write (Elt F) f (gat tab (listOf ids b) (512 * t + 256 * r)) Finset.univ i = rowsOf tab ids i := by
  intro i hi
  rw [← set_oRowM (off := off) (inb := inb) e] at hi
  obtain ⟨j, -, rfl⟩ := Finset.mem_map.mp hi
  have hj : (j 0).val < 256 := (j 0).isLt
  obtain ⟨h0, h1, h2⟩ := emb_oRowM (off := off) (inb := inb) j
  rw [View.write_emb_of_mem _ _ (Finset.mem_univ j)]
  show gat tab (listOf ids b) (512 * t + 256 * r) j = rowsOf tab ids ((oRowM off inb).view.emb j)
  subst e
  unfold gat rowsOf listOf
  have h0' : ((((oRowM ![t, b + 256 * r, 0] inb).view.emb j : S50x16384x128.Idx)) 0).val = t := h0
  have h1' : ((((oRowM ![t, b + 256 * r, 0] inb).view.emb j : S50x16384x128.Idx)) 1).val = b + 256 * r + (j 0).val := h1
  have h2' : ((((oRowM ![t, b + 256 * r, 0] inb).view.emb j : S50x16384x128.Idx)) 2).val = 0 + (j 1).val := h2
  refine congrArg tab (congr (congrArg ix2 (congrArg rowNo (congrArg ids (congr (congrArg ix2 (Fin.ext ?_)) (Fin.ext ?_))))) (Fin.ext ?_))
  · rw [h0']; show ((512 * t + 256 * r + (j 0).val) % 25600) / 512 = t; omega
  · rw [h1']; show (b + ((512 * t + 256 * r + (j 0).val) % 25600) % 512) % 16384 = b + 256 * r + (j 0).val; omega
  · rw [h2']; omega

end Cert.Proof
end
-- ==== Proof.Fetch.lean ====
/-
  A tile's first two loops: fifty fetches in flight on one semaphore, each of a row of the tile's indices into the list,
  then fifty waits on it; after them the list holds every index of the tile.
-/
module

public import proofs.«01_k».proof.Proof.Views
public import Idealize.ShloMosaic.Lib.Batch
public import Idealize.ShloMosaic.Lib.Scf

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MM F

/-! ## Conjunctions over initial and final segments of the rows -/

omit [FloatOps F] in
theorem bigSep_Ico_head {n t : ℕ} (h : t < n) (Φ : ℕ → sProp 𝕄) :
    bigSep (Finset.Ico t n) Φ = iprop(Φ t ∗ bigSep (Finset.Ico (t + 1) n) Φ) := by
  rw [← Finset.insert_Ico_add_one_left_eq_Ico h, SparseCore.bigSep_insert' (by simp)]

omit [FloatOps F] in
theorem bigSep_range_last (n : ℕ) (Φ : ℕ → sProp 𝕄) : bigSep (Finset.range (n + 1)) Φ = iprop(Φ n ∗ bigSep (Finset.range n) Φ) := by
  rw [Finset.range_add_one, SparseCore.bigSep_insert' Finset.notMem_range_self]

omit [FloatOps F] in
theorem bigSep_Ico_zero (n : ℕ) (Φ : ℕ → sProp 𝕄) : bigSep (Finset.Ico 0 n) Φ = bigSep (Finset.range n) Φ := by
  rw [Finset.range_eq_Ico]

/-! ## The tile -/

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
/-- The tile's first position. -/
abbrev bs (L : grid1.Coords) : ℕ := base (L 0).val (L 1).val
abbrev lLoc (d : Dev nD) (L : grid1.Coords) : Loc nD τ sig := (thr d L).loc cc1_scratch1
abbrev aLoc (d : Dev nD) (L : grid1.Coords) : Loc nD τ sig := (thr d L).loc cc1_scratch2
abbrev bLoc (d : Dev nD) (L : grid1.Coords) : Loc nD τ sig := (thr d L).loc cc1_scratch3

theorem bs_le : bs L + 512 ≤ 16384 := by
  have h0 : (L 0).val < 2 := (L 0).isLt
  have h1 : (L 1).val < 16 := (L 1).isLt
  unfold bs base; omega

theorem trips1 : k1_t1_loop.trips = 50 := by decide +kernel
theorem trips2 : k1_t2_loop.trips = 50 := by decide +kernel
theorem trips3 : k1_t3_loop.trips = 50 := by decide +kernel

/-- The amount of one fetch. -/
abbrev NF : ℕ := (lV).view.ref.dmaCredit S512 .i32

variable (ids : Ids F)

/-- What the fetch of row `h` leaves: the list's elements of that row. -/
def gotRow (h : Fin 50) : sProp 𝕄 := lLoc d L ↦[seg (512 * h.val) 512]{fullShare} listOf ids (bs L)

instance gotRow_storable (h : Fin 50) : BI.Storable (upEmb : UEmb _ 𝕄) (gotRow d L ids h) := by unfold gotRow; infer_instance

/-- Before fetch `t`: the fetches under way, and the rows and the list's elements of those to come. -/
def inv1 (f : Vec F S25600 .i32) (t : ℕ) (_ : Unit) : sProp 𝕄 :=
  iprop(Batch countersEmb (thr d L) (.dma cc1_scratch4.sem) (default : HIx 1) NF (gotRow d L ids) t 0
    ∗ bigSep (Finset.Ico t 50) fun h => iprop((xLoc d ↦[xRow (bs L) h]{fullShare} ids) ∗ lLoc d L ↦[seg (512 * h) 512]{fullShare} f))

/-- One trip of the first loop: the fetch of its row, issued. -/
theorem fetch_step (f : Vec F S25600 .i32) (t : Fin k1_t1_loop.trips) (acc : Unit) :
    inv1 d L ids f t acc ⊢ wp frame (wpE (defs₀ (F := F)) 𝒱₀ (thr d L) none) Set.univ
      (k1_t1_body L eV (Memref.isWhole_whole _) xV (Memref.isWhole_whole _) oV (Memref.isWhole_whole _) shV (Memref.isWhole_whole _) lV (Memref.isWhole_whole _)
        aV (Memref.isWhole_whole _) bV (Memref.isWhole_whole _) cc1_scratch4 cc1_scratch5 cc1_scratch6 cc1_scratch7 cc1_scratch8 cc1_scoped0 t acc)
      (inv1 d L ids f (t.val + 1)) := by
  have ht : t.val < 50 := lt_of_lt_of_eq t.isLt trips1
  unfold inv1 k1_t1_body
  rw [bigSep_Ico_head ht]
  iintro ⟨HB, ⟨Hx, Hl⟩, Hrest⟩
  have hx := set_xRowM (inb := k1_off2_inb L t) (k1_off2_eq L t)
  have hl := set_seg512M (inb := k1_off1_inb t) (k1_off1_eq t)
  ihave Hx' := (Entails.of_eq (show (xLoc d ↦[xRow (bs L) t.val]{fullShare} ids : sProp 𝕄)
    = ((xRowM (k1_off2 L t) (k1_off2_inb L t)).view.loc (thr d L) ↦[(xRowM (k1_off2 L t) (k1_off2_inb L t)).view.set]{fullShare} ids) by rw [hx]; rfl)) $$ Hx
  ihave Hl' := (Entails.of_eq (show (lLoc d L ↦[seg (512 * t.val) 512]{fullShare} f : sProp 𝕄)
    = ((seg512M (k1_off1 t) (k1_off1_inb t)).view.loc (thr d L) ↦[seg (512 * t.val) 512]{fullShare} f) by rfl)) $$ Hl
  dsimp only [Prog.lift]
  simp only [Prog.bind_op, Prog.bind_ret]
  have hD : iprop(((seg512M (k1_off1 t) (k1_off1_inb t)).view.loc (thr d L) ↦[seg (512 * t.val) 512]{fullShare}
        ((seg512M (k1_off1 t) (k1_off1_inb t)).view.write (Elt F) f (ReadAs.same.apply ((xRowM (k1_off2 L t) (k1_off2_inb L t)).view.read (Elt F) ids)) Finset.univ))
      ∗ ((xRowM (k1_off2 L t) (k1_off2_inb L t)).view.loc (thr d L) ↦[(xRowM (k1_off2 L t) (k1_off2_inb L t)).view.set]{fullShare} ids)) ⊢ (gotRow d L ids ⟨t.val, ht⟩ : sProp 𝕄) :=
    sep_elim_left.trans (Entails.of_eq (pointsTo_congr (fetch_val ids (bs L) t.val (bs_le L) (k1_off2_eq L t) (k1_off1_eq t) f)))
  have hN : (seg512M (k1_off1 t) (k1_off1_inb t)).view.amount (SemLoc.dma cc1_scratch4.sem) = NF := rfl
  iapply (wp_dmaBatch countersEmb 𝒱₀ (thr d L) none (src := xRowM (k1_off2 L t) (k1_off2_inb L t)) (dst := seg512M (k1_off1 t) (k1_off1_inb t)) (via := .same)
    (D := gotRow d L ids) (j := t.val) (u := 0) (default : HIx 1) NF hN (Sd := seg (512 * t.val) 512) hl.le ht (Nat.zero_le _) hD) $$ [Hx' Hl' HB]
  · isplitl [Hx']; · iexact Hx'
    isplitl [Hl']; · iexact Hl'
    iexact HB
  iintro HB
  sl_step
  isplitl [HB]; · iexact HB
  iexact Hrest

/-! ## The waits -/

/-- The waits recorded since `W`: at the transfers' index or the call's. -/
def WOk (W W' : Waits sig (HIx 1)) : Prop := ∀ p ∈ W', p ∈ W ∨ p.2 = none ∨ p.2 = some (0 : Fin 1)

theorem WOk.refl (W : Waits sig (HIx 1)) : WOk W W := fun _ h => .inl h
theorem WOk.insert {W W' : Waits sig (HIx 1)} (h : WOk W W') (sm : SemLoc sig) : WOk W (Insert.insert (sm, (default : HIx 1)) W') := fun p hp => by
  rcases Finset.mem_insert.mp hp with rfl | hp
  · exact .inr (.inl rfl)
  · exact h p hp
theorem WOk.insert_call {W W' : Waits sig (HIx 1)} (h : WOk W W') (sm : SemLoc sig) : WOk W (Insert.insert (sm, some (0 : Fin 1)) W') := fun p hp => by
  rcases Finset.mem_insert.mp hp with rfl | hp
  · exact .inr (.inr rfl)
  · exact h p hp

/-- The tile's debt `O`, with the waits recorded since `W`. -/
def debt (O : CellTallies nD τ sig (HIx 1)) (W : Waits sig (HIx 1)) : sProp 𝕄 := iprop(∃ W', ⌜WOk W W'⌝ ∗ owes (thr d L) O W')

variable (O : CellTallies nD τ sig (HIx 1)) (W : Waits sig (HIx 1))

/-- Before wait `t`: the fetches under way, `t` of them waited for; after the last, every row's elements of the list. -/
def inv2 (t : ℕ) (_ : Unit) : sProp 𝕄 :=
  iprop(MayWaits (thr d L) (default : HIx 1) O
    ∗ (if t < 50 then Batch countersEmb (thr d L) (.dma cc1_scratch4.sem) (default : HIx 1) NF (gotRow d L ids) 50 (t * NF)
        else iprop(bigSep Finset.univ (gotRow d L ids) ∗ semVal (thr d L, .dma cc1_scratch4.sem) 0))
    ∗ debt d L O W)

/-- One trip of the second loop: one wait. -/
theorem wait_step (t : Fin k1_t2_loop.trips) (acc : Unit) :
    inv2 d L ids O W t acc ⊢ wp frame (wpE (defs₀ (F := F)) 𝒱₀ (thr d L) none) Set.univ
      (k1_t2_body L eV (Memref.isWhole_whole _) xV (Memref.isWhole_whole _) oV (Memref.isWhole_whole _) shV (Memref.isWhole_whole _) lV (Memref.isWhole_whole _)
        aV (Memref.isWhole_whole _) bV (Memref.isWhole_whole _) cc1_scratch4 cc1_scratch5 cc1_scratch6 cc1_scratch7 cc1_scratch8 cc1_scoped0 t acc)
      (inv2 d L ids O W (t.val + 1)) := by
  have ht : t.val < 50 := lt_of_lt_of_eq t.isLt trips2
  unfold inv2 k1_t2_body debt
  rw [if_pos ht]
  dsimp only [Prog.lift]
  simp only [Prog.bind_op, Prog.bind_ret]
  iintro ⟨#Hmw, HB, %W', %hW, HO⟩
  have hN : (seg512M (k1_off3 t) (k1_off3_inb t)).view.dmaCredit = NF := rfl
  have hN0 : 0 < NF := by decide
  by_cases hl : t.val + 1 < 50
  · rw [if_pos hl]
    iapply (wp_waitBatchO countersEmb 𝒱₀ (thr d L) none (dstw := seg512M (k1_off3 t) (k1_off3_inb t)) (D := gotRow d L ids) (u := t.val * NF) (default : HIx 1) hN
      (by have : (t.val + 1) * NF < 50 * NF := Nat.mul_lt_mul_of_pos_right hl hN0
          rw [Nat.add_mul, Nat.one_mul] at this; rw [Nat.mul_comm NF 50]; exact this)) $$ [HB HO]
    · isplitl [HB]; · iexact HB
      isplitl [HO]; · iexact HO
      iapply (MayWaits.elim (SemLoc.dma cc1_scratch4.sem)); iexact Hmw
    iintro ⟨HB, HO⟩
    sl_step
    isplitr; · iexact Hmw
    isplitl [HB]
    · rw [Nat.add_mul, Nat.one_mul]; iexact HB
    iexists _; isplitr; swap; · iexact HO
    ipureintro; exact hW.insert _
  · rw [if_neg hl]
    iapply (wp_waitBatchLastO countersEmb 𝒱₀ (thr d L) none (dstw := seg512M (k1_off3 t) (k1_off3_inb t)) (D := gotRow d L ids) (u := t.val * NF) (default : HIx 1) hN hN0
      (by have : t.val = 49 := by omega
          rw [this, Nat.mul_comm NF 50, show 50 = 49 + 1 from rfl, Nat.add_mul, Nat.one_mul])) $$ [HB HO]
    · isplitl [HB]; · iexact HB
      isplitl [HO]; · iexact HO
      iapply (MayWaits.elim (SemLoc.dma cc1_scratch4.sem)); iexact Hmw
    iintro ⟨HD, Hs, HO⟩
    sl_step
    isplitr; · iexact Hmw
    isplitl [HD Hs]
    · isplitl [HD]; · iexact HD
      iexact Hs
    iexists _; isplitr; swap; · iexact HO
    ipureintro; exact hW.insert _

/-! ## The pieces split and join -/

theorem xRows_cover (b : ℕ) : (Finset.range 50).biUnion (xRow b) = xTile b := by
  ext x
  rw [mem_xTile, Finset.mem_biUnion]
  constructor
  · rintro ⟨h, -, hx⟩; exact (mem_xRow.mp hx).2
  · exact fun h => ⟨(x 0).val, Finset.mem_range.mpr (x 0).isLt, mem_xRow.mpr ⟨rfl, h⟩⟩

theorem pts_xRows (b : ℕ) : (xLoc d ↦[xTile b]{fullShare} ids : sProp 𝕄) = bigSep (Finset.range 50) fun h => xLoc d ↦[xRow b h]{fullShare} ids := by
  rw [← pointsTo_biUnion (Finset.range 50) (ℓ := xLoc d) (xRow b) (fun i _ j _ hij => Finset.disjoint_left.mpr fun x hx hx' =>
    hij ((mem_xRow.mp hx).1.symm.trans (mem_xRow.mp hx').1))]
  rw [xRows_cover]

theorem segs_disjoint (i j : ℕ) (hij : i ≠ j) : Disjoint (seg (512 * i) 512) (seg (512 * j) 512) :=
  Finset.disjoint_left.mpr fun x hx hx' => by
    have h1 := mem_seg.mp hx; have h2 := mem_seg.mp hx'; omega

theorem segs_cover : (Finset.range 50).biUnion (fun h => seg (512 * h) 512) = Finset.univ := by
  ext x
  have hx : (x 0).val < 25600 := (x 0).isLt
  simp only [Finset.mem_biUnion, Finset.mem_range, mem_seg, Finset.mem_univ, iff_true]
  exact ⟨(x 0).val / 512, by omega, by omega, by omega⟩

theorem pts_segs (f : Vec F S25600 .i32) : (lLoc d L ↦{fullShare} f : sProp 𝕄) = bigSep (Finset.range 50) fun h => lLoc d L ↦[seg (512 * h) 512]{fullShare} f := by
  rw [← pointsTo_biUnion (Finset.range 50) (ℓ := lLoc d L) (fun h => seg (512 * h) 512) (fun i _ j _ hij => segs_disjoint i j hij), segs_cover]

theorem gotRows_cover : (Finset.univ : Finset (Fin 50)).biUnion (fun h => seg (512 * h.val) 512) = Finset.univ := by
  ext x
  have hx : (x 0).val < 25600 := (x 0).isLt
  simp only [Finset.mem_biUnion, Finset.mem_univ, true_and, iff_true]
  exact ⟨⟨(x 0).val / 512, by omega⟩, mem_seg.mpr (by show 512 * ((x 0).val / 512) ≤ _ ∧ _ < 512 * ((x 0).val / 512) + 512; omega)⟩

/-- Every row's elements are the whole list. -/
theorem list_join : bigSep Finset.univ (gotRow d L ids) = (lLoc d L ↦{fullShare} listOf ids (bs L) : sProp 𝕄) := by
  unfold gotRow
  rw [← pointsTo_biUnion Finset.univ (ℓ := lLoc d L) (fun h : Fin 50 => seg (512 * h.val) 512) (fun i _ j _ hij => segs_disjoint i.val j.val (fun e => hij (Fin.ext e)))]
  rw [gotRows_cover]

omit [FloatOps F] in
theorem pts_union {ℓ : Loc nD τ sig} {I J : Finset (Idx ℓ)} {q : PosShare TreeShare} {f : Buf (Elt F) ℓ} (h : Disjoint I J) :
    iprop((ℓ ↦[I]{q} f) ∗ ℓ ↦[J]{q} f) = (ℓ ↦[I ∪ J]{q} f : sProp 𝕄) := by
  have hu : (ℓ ↦[I ∪ J]{q} f : sProp 𝕄) ⊣⊢ iprop((ℓ ↦[I]{q} f) ∗ ℓ ↦[J]{q} f) := pointsTo_union h
  exact (BI.equiv_iff.mp ⟨hu.1, hu.2⟩).symm

theorem oBlk_disjoint_halves (b h : ℕ) : Disjoint (oBlk b h) (oBlk (b + 256) h) := Finset.disjoint_left.mpr fun x hx hx' => by
  have h1 := mem_oBlk.mp hx; have h2 := mem_oBlk.mp hx'; omega

theorem oRows_cover (b : ℕ) : (Finset.range 50).biUnion (fun h => oBlk b h ∪ oBlk (b + 256) h) = oTile b := by
  ext x
  have hx : (x 0).val < 50 := (x 0).isLt
  simp only [Finset.mem_biUnion, Finset.mem_range, Finset.mem_union, mem_oBlk, mem_oTile]
  constructor
  · rintro ⟨h, -, hh | hh⟩ <;> omega
  · intro h
    refine ⟨(x 0).val, hx, ?_⟩
    by_cases hc : (x 1).val < b + 256
    · exact .inl ⟨rfl, h.1, hc⟩
    · exact .inr ⟨rfl, by omega, by omega⟩

/-- A tile's part of the output is, row by row, its two halves. -/
theorem pts_oRows (b : ℕ) (f : Outs F) : (oLoc d ↦[oTile b]{fullShare} f : sProp 𝕄)
    = bigSep (Finset.range 50) fun h => iprop((oLoc d ↦[oBlk b h]{fullShare} f) ∗ oLoc d ↦[oBlk (b + 256) h]{fullShare} f) := by
  have hrow : ∀ h, iprop((oLoc d ↦[oBlk b h]{fullShare} f) ∗ oLoc d ↦[oBlk (b + 256) h]{fullShare} f)
      = (oLoc d ↦[oBlk b h ∪ oBlk (b + 256) h]{fullShare} f : sProp 𝕄) := fun h =>
    pts_union (oBlk_disjoint_halves b h)
  simp only [hrow]
  rw [← pointsTo_biUnion (Finset.range 50) (ℓ := oLoc d) (fun h => oBlk b h ∪ oBlk (b + 256) h) (fun i _ j _ hij => Finset.disjoint_left.mpr fun x hx hx' => by
    rcases Finset.mem_union.mp hx with h1 | h1 <;> rcases Finset.mem_union.mp hx' with h2 | h2 <;>
      exact hij ((mem_oBlk.mp h1).1.symm.trans (mem_oBlk.mp h2).1))]
  rw [oRows_cover]

end Cert.Proof
end
-- ==== Proof.Gather.lean ====
/-
  A tile's main loop: each trip gathers a row's two halves out of the shared copy of the table and copies them out, the
  first half's gather issued by the trip before, the second half's copy waited for by the trip after.
-/
module

public import proofs.«01_k».proof.Proof.Fetch

@[expose] public section

noncomputable section

namespace Cert.Proof

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MM F

variable (d : Dev nD) (L : grid1.Coords) (tab : Tab F) (ids : Ids F) (f₀ : Outs F)
variable (O : CellTallies nD τ sig (HIx 1)) (W : Waits sig (HIx 1))

/-- The tile's list, complete. -/
abbrev lst (L : grid1.Coords) (ids : Ids F) : Vec F S25600 .i32 := listOf ids (bs L)
/-- The tile's share of the copied table. -/
abbrev tblPts (d : Dev nD) (L : grid1.Coords) (tab : Tab F) : sProp 𝕄 := shPiece d (cV L) (Fin.cast rfl (jV L)) tab
/-- The amount a gather's semaphore comes to, and a copy out's. -/
abbrev NG : ℕ := (aV).view.dmaCredit
abbrev NO : ℕ := (oV).view.ref.dmaCredit S256x128 .f32

/-! ## One gather, one copy out -/

theorem lst_lt (hids : ∀ x, (ids x : BitVec 32).toNat < 1000) (k : S25600.Idx) : (lst L ids k : BitVec 32).toNat < 1000 := hids _

/-- A gather into the first rows' buffer: what is due on its semaphore. -/
abbrev dueA (a : ℕ) : sProp 𝕄 :=
  Flight countersEmb (thr d L) (.dma cc1_scratch5.sem) (default : HIx 1) NG
    iprop((aLoc d L ↦{fullShare} gat tab (lst L ids) a) ∗ tblPts d L tab ∗ lLoc d L ↦[seg a 256]{fullShare} lst L ids)
/-- Into the second's. -/
abbrev dueB (a : ℕ) : sProp 𝕄 :=
  Flight countersEmb (thr d L) (.dma cc1_scratch6.sem) (default : HIx 1) NG
    iprop((bLoc d L ↦{fullShare} gat tab (lst L ids) a) ∗ tblPts d L tab ∗ lLoc d L ↦[seg a 256]{fullShare} lst L ids)
/-- A copy out of the first's, to positions `p` on of row `h`. -/
abbrev dueOutA (p h a : ℕ) : sProp 𝕄 :=
  Flight countersEmb (thr d L) (.dma cc1_scratch7.sem) (default : HIx 1) NO
    iprop((oLoc d ↦[oBlk p h]{fullShare} rowsOf tab ids) ∗ aLoc d L ↦{fullShare} gat tab (lst L ids) a)
/-- Out of the second's. -/
abbrev dueOutB (p h a : ℕ) : sProp 𝕄 :=
  Flight countersEmb (thr d L) (.dma cc1_scratch8.sem) (default : HIx 1) NO
    iprop((oLoc d ↦[oBlk p h]{fullShare} rowsOf tab ids) ∗ bLoc d L ↦{fullShare} gat tab (lst L ids) a)

theorem pts_seg256 {off : Fin 1 → ℕ} {inb} {a : ℕ} (e : off = ![a]) (f : Vec F S25600 .i32) :
    ((seg256M off inb).view.loc (thr d L) ↦[(seg256M off inb).view.set]{fullShare} f : sProp 𝕄) = lLoc d L ↦[seg a 256]{fullShare} f := by
  rw [set_seg256M e]
theorem pts_shM (q : PosShare TreeShare) (f : Tab F) :
    ((shM).view.loc (thr d L) ↦[(shM).view.set]{q} f : sProp 𝕄) = shLoc d (cV L) ↦{q} f := by
  rw [set_shM]; rfl
theorem pts_aV (f : Vec F S256x128 .f32) : ((aV).view.loc (thr d L) ↦[(aV).view.set]{fullShare} f : sProp 𝕄) = aLoc d L ↦{fullShare} f := by
  rw [View.set_whole]
theorem pts_bV (f : Vec F S256x128 .f32) : ((bV).view.loc (thr d L) ↦[(bV).view.set]{fullShare} f : sProp 𝕄) = bLoc d L ↦{fullShare} f := by
  rw [View.set_whole]

section Ops
variable {α : Type} {k : PUnit → Prog (TpuEff nD τ sig (Elt F) Λ₀ (thr d L).2) α}

theorem deliveredA {off : Fin 1 → ℕ} {inb} {a : ℕ} (e : off = ![a]) (hids : ∀ x, (ids x : BitVec 32).toNat < 1000) (fd : Vec F S256x128 .f32) {hn hin} :
    iprop(((aV).view.loc (thr d L) ↦[(aV).view.set]{fullShare} (aV).view.write (Elt F) fd
        (gatherPayload gathers_S1000x128_S256x128 ((shM).view.read (Elt F) tab) (rows ((seg256M off inb).view.read (Elt F) (lst L ids)) hn hin)) Finset.univ)
      ∗ ((shM).view.loc (thr d L) ↦[(shM).view.set]{pieceOf fullShare 16 (by decide) (Fin.cast rfl (jV L))} tab)
      ∗ ((seg256M off inb).view.loc (thr d L) ↦[(seg256M off inb).view.set]{fullShare} lst L ids))
    ⊢ (iprop((aLoc d L ↦{fullShare} gat tab (lst L ids) a) ∗ tblPts d L tab ∗ lLoc d L ↦[seg a 256]{fullShare} lst L ids) : sProp 𝕄) := by
  rw [gather_val tab (lst L ids) (lst_lt L ids hids) a e, pts_shM, pts_seg256 d L e, pts_aV]
  erw [View.write_whole_univ]

theorem gatherA {Ψ : α → sProp (MM F)} {off : Fin 1 → ℕ} {inb} {a : ℕ} (e : off = ![a]) (hids : ∀ x, (ids x : BitVec 32).toNat < 1000) (fd : Vec F S256x128 .f32)
    {hp : (thr d L).2.kind = .scVector} {hn : S256.numel = S256x128.size gathers_S1000x128_S256x128.axis'} {hsrc : (shM).view.WordExact} {he : EltTy.f32.bits = 32}
    {hsp : Space.shared = .hbm ∨ Space.shared = .shared} {hr : S1000x128.StreamRows 0} :
    iprop(tblPts d L tab ∗ (aLoc d L ↦{fullShare} fd) ∗ (lLoc d L ↦[seg a 256]{fullShare} lst L ids) ∗ semVal (thr d L, .dma cc1_scratch5.sem) 0)
      ⊢ iprop((dueA d L tab ids a -∗ wp frame (wpE (defs₀ (F := F)) 𝒱₀ (thr d L) none) Set.univ (k ⟨⟩) Ψ)
        -∗ wp frame (wpE (defs₀ (F := F)) 𝒱₀ (thr d L) none) Set.univ
          (SparseCore.enqueueIndirectGather hp shM aV gathers_S1000x128_S256x128 (seg256M off inb) hn cc1_scratch5.sem hsrc he hsp hr >>= k) Ψ) := by
  have hN : ∀ h : S1000x128.Gathers 0 S256x128, ∑ j, ((aV).slice (S256x128.rowRect h.axis' j) (S256x128.stride_rowRect h.axis' j)).view.dmaCredit = NG := by decide
  have hin : ∀ x, ((seg256M off inb).view.read (Elt F) (lst L ids) x : BitVec 32).toNat < S1000x128.size gathers_S1000x128_S256x128.axis := fun x => lst_lt L ids hids _
  iintro ⟨Hs, Hd, Hl, Hv⟩ Hk
  ihave Hs' := (Entails.of_eq (pts_shM d L _ tab).symm) $$ Hs
  ihave Hd' := (Entails.of_eq (pts_aV d L fd).symm) $$ Hd
  ihave Hl' := (Entails.of_eq (pts_seg256 d L (inb := inb) e (lst L ids)).symm) $$ Hl
  iapply (SparseCore.wp_indirectGatherLocal countersEmb 𝒱₀ (thr d L) none (src := shM) (dst := aV) (offs := seg256M off inb) (hg := gathers_S1000x128_S256x128) (hn := hn)
    (default : HIx 1) NG (hN _) (by decide) hin) $$ [Hs' Hd' Hl' Hv]
  · isplitl [Hs']; · iexact Hs'
    isplitl [Hd']; · iexact Hd'
    isplitl [Hl']; · iexact Hl'
    iexact Hv
  iintro HF
  ihave HF' := (Flight_mono countersEmb (thr d L) (deliveredA d L tab ids (inb := inb) e hids fd (hn := hn) (hin := hin))) $$ HF
  iapply Hk $$ [HF']
  iexact HF'

theorem sentA {off : Fin 3 → ℕ} {inb} (t r : ℕ) (hr : r < 2) (ht : t < 50) (e : off = ![t, bs L + 256 * r, 0]) :
    iprop(((oRowM off inb).view.loc (thr d L) ↦[oBlk (bs L + 256 * r) t]{fullShare} (oRowM off inb).view.write (Elt F) f₀
        (ReadAs.same.apply ((aV).view.read (Elt F) (gat tab (lst L ids) (512 * t + 256 * r)))) Finset.univ)
      ∗ ((aV).view.loc (thr d L) ↦[(aV).view.set]{fullShare} gat tab (lst L ids) (512 * t + 256 * r)))
    ⊢ (iprop((oLoc d ↦[oBlk (bs L + 256 * r) t]{fullShare} rowsOf tab ids) ∗ aLoc d L ↦{fullShare} gat tab (lst L ids) (512 * t + 256 * r)) : sProp 𝕄) := by
  rw [pts_aV]
  exact BIClass.sep_mono (Entails.of_eq (pointsTo_congr (out_val tab ids (bs L) t r hr (bs_le L) ht e f₀))) (Entails.refl _)

theorem outA {Ψ : α → sProp (MM F)} {off : Fin 3 → ℕ} {inb} (t r : ℕ) (hr : r < 2) (ht : t < 50) (e : off = ![t, bs L + 256 * r, 0])
    {hsw : (aV).view.WordExact} {hdw : (oRowM off inb).view.WordExact} {hrt} :
    iprop((aLoc d L ↦{fullShare} gat tab (lst L ids) (512 * t + 256 * r)) ∗ (oLoc d ↦[oBlk (bs L + 256 * r) t]{fullShare} f₀) ∗ semVal (thr d L, .dma cc1_scratch7.sem) 0)
      ⊢ iprop((dueOutA d L tab ids (bs L + 256 * r) t (512 * t + 256 * r) -∗ wp frame (wpE (defs₀ (F := F)) 𝒱₀ (thr d L) none) Set.univ (k ⟨⟩) Ψ)
        -∗ wp frame (wpE (defs₀ (F := F)) 𝒱₀ (thr d L) none) Set.univ
          (.op (.enqueueDma aV (.here (oRowM off inb)) (.dma cc1_scratch7.sem) hsw hdw hrt) k) Ψ) := by
  have ho := set_oRowM (inb := inb) e
  have hN : (oRowM off inb).view.amount (SemLoc.dma cc1_scratch7.sem) = NO := rfl
  iintro ⟨Hs, Hd, Hv⟩ Hk
  ihave Hs' := (Entails.of_eq (pts_aV d L _).symm) $$ Hs
  ihave Hd' := (Entails.of_eq (show (oLoc d ↦[oBlk (bs L + 256 * r) t]{fullShare} f₀ : sProp 𝕄)
    = ((oRowM off inb).view.loc (thr d L) ↦[oBlk (bs L + 256 * r) t]{fullShare} f₀) from rfl)) $$ Hd
  iapply (wp_dmaLocal countersEmb 𝒱₀ (thr d L) none (src := aV) (dst := oRowM off inb) (via := .same)
    (default : HIx 1) NO hN (by decide) (Sd := oBlk (bs L + 256 * r) t) ho.le) $$ [Hs' Hd' Hv]
  · isplitl [Hs']; · iexact Hs'
    isplitl [Hd']; · iexact Hd'
    iexact Hv
  iintro HF
  ihave HF' := (Flight_mono countersEmb (thr d L) (sentA d L tab ids f₀ (inb := inb) t r hr ht e)) $$ HF
  iapply Hk $$ [HF']
  iexact HF'

theorem deliveredB {off : Fin 1 → ℕ} {inb} {a : ℕ} (e : off = ![a]) (hids : ∀ x, (ids x : BitVec 32).toNat < 1000) (fd : Vec F S256x128 .f32) {hn hin} :
    iprop(((bV).view.loc (thr d L) ↦[(bV).view.set]{fullShare} (bV).view.write (Elt F) fd
        (gatherPayload gathers_S1000x128_S256x128 ((shM).view.read (Elt F) tab) (rows ((seg256M off inb).view.read (Elt F) (lst L ids)) hn hin)) Finset.univ)
      ∗ ((shM).view.loc (thr d L) ↦[(shM).view.set]{pieceOf fullShare 16 (by decide) (Fin.cast rfl (jV L))} tab)
      ∗ ((seg256M off inb).view.loc (thr d L) ↦[(seg256M off inb).view.set]{fullShare} lst L ids))
    ⊢ (iprop((bLoc d L ↦{fullShare} gat tab (lst L ids) a) ∗ tblPts d L tab ∗ lLoc d L ↦[seg a 256]{fullShare} lst L ids) : sProp 𝕄) := by
  rw [gather_val tab (lst L ids) (lst_lt L ids hids) a e, pts_shM, pts_seg256 d L e, pts_bV]
  erw [View.write_whole_univ]

theorem gatherB {Ψ : α → sProp (MM F)} {off : Fin 1 → ℕ} {inb} {a : ℕ} (e : off = ![a]) (hids : ∀ x, (ids x : BitVec 32).toNat < 1000) (fd : Vec F S256x128 .f32)
    {hp : (thr d L).2.kind = .scVector} {hn : S256.numel = S256x128.size gathers_S1000x128_S256x128.axis'} {hsrc : (shM).view.WordExact} {he : EltTy.f32.bits = 32}
    {hsp : Space.shared = .hbm ∨ Space.shared = .shared} {hr : S1000x128.StreamRows 0} :
    iprop(tblPts d L tab ∗ (bLoc d L ↦{fullShare} fd) ∗ (lLoc d L ↦[seg a 256]{fullShare} lst L ids) ∗ semVal (thr d L, .dma cc1_scratch6.sem) 0)
      ⊢ iprop((dueB d L tab ids a -∗ wp frame (wpE (defs₀ (F := F)) 𝒱₀ (thr d L) none) Set.univ (k ⟨⟩) Ψ)
        -∗ wp frame (wpE (defs₀ (F := F)) 𝒱₀ (thr d L) none) Set.univ
          (SparseCore.enqueueIndirectGather hp shM bV gathers_S1000x128_S256x128 (seg256M off inb) hn cc1_scratch6.sem hsrc he hsp hr >>= k) Ψ) := by
  have hN : ∀ h : S1000x128.Gathers 0 S256x128, ∑ j, ((bV).slice (S256x128.rowRect h.axis' j) (S256x128.stride_rowRect h.axis' j)).view.dmaCredit = NG := by decide
  have hin : ∀ x, ((seg256M off inb).view.read (Elt F) (lst L ids) x : BitVec 32).toNat < S1000x128.size gathers_S1000x128_S256x128.axis := fun x => lst_lt L ids hids _
  iintro ⟨Hs, Hd, Hl, Hv⟩ Hk
  ihave Hs' := (Entails.of_eq (pts_shM d L _ tab).symm) $$ Hs
  ihave Hd' := (Entails.of_eq (pts_bV d L fd).symm) $$ Hd
  ihave Hl' := (Entails.of_eq (pts_seg256 d L (inb := inb) e (lst L ids)).symm) $$ Hl
  iapply (SparseCore.wp_indirectGatherLocal countersEmb 𝒱₀ (thr d L) none (src := shM) (dst := bV) (offs := seg256M off inb) (hg := gathers_S1000x128_S256x128) (hn := hn)
    (default : HIx 1) NG (hN _) (by decide) hin) $$ [Hs' Hd' Hl' Hv]
  · isplitl [Hs']; · iexact Hs'
    isplitl [Hd']; · iexact Hd'
    isplitl [Hl']; · iexact Hl'
    iexact Hv
  iintro HF
  ihave HF' := (Flight_mono countersEmb (thr d L) (deliveredB d L tab ids (inb := inb) e hids fd (hn := hn) (hin := hin))) $$ HF
  iapply Hk $$ [HF']
  iexact HF'

theorem sentB {off : Fin 3 → ℕ} {inb} (t r : ℕ) (hr : r < 2) (ht : t < 50) (e : off = ![t, bs L + 256 * r, 0]) :
    iprop(((oRowM off inb).view.loc (thr d L) ↦[oBlk (bs L + 256 * r) t]{fullShare} (oRowM off inb).view.write (Elt F) f₀
        (ReadAs.same.apply ((bV).view.read (Elt F) (gat tab (lst L ids) (512 * t + 256 * r)))) Finset.univ)
      ∗ ((bV).view.loc (thr d L) ↦[(bV).view.set]{fullShare} gat tab (lst L ids) (512 * t + 256 * r)))
    ⊢ (iprop((oLoc d ↦[oBlk (bs L + 256 * r) t]{fullShare} rowsOf tab ids) ∗ bLoc d L ↦{fullShare} gat tab (lst L ids) (512 * t + 256 * r)) : sProp 𝕄) := by
  rw [pts_bV]
  exact BIClass.sep_mono (Entails.of_eq (pointsTo_congr (out_val tab ids (bs L) t r hr (bs_le L) ht e f₀))) (Entails.refl _)

theorem outB {Ψ : α → sProp (MM F)} {off : Fin 3 → ℕ} {inb} (t r : ℕ) (hr : r < 2) (ht : t < 50) (e : off = ![t, bs L + 256 * r, 0])
    {hsw : (bV).view.WordExact} {hdw : (oRowM off inb).view.WordExact} {hrt} :
    iprop((bLoc d L ↦{fullShare} gat tab (lst L ids) (512 * t + 256 * r)) ∗ (oLoc d ↦[oBlk (bs L + 256 * r) t]{fullShare} f₀) ∗ semVal (thr d L, .dma cc1_scratch8.sem) 0)
      ⊢ iprop((dueOutB d L tab ids (bs L + 256 * r) t (512 * t + 256 * r) -∗ wp frame (wpE (defs₀ (F := F)) 𝒱₀ (thr d L) none) Set.univ (k ⟨⟩) Ψ)
        -∗ wp frame (wpE (defs₀ (F := F)) 𝒱₀ (thr d L) none) Set.univ
          (.op (.enqueueDma bV (.here (oRowM off inb)) (.dma cc1_scratch8.sem) hsw hdw hrt) k) Ψ) := by
  have ho := set_oRowM (inb := inb) e
  have hN : (oRowM off inb).view.amount (SemLoc.dma cc1_scratch8.sem) = NO := rfl
  iintro ⟨Hs, Hd, Hv⟩ Hk
  ihave Hs' := (Entails.of_eq (pts_bV d L _).symm) $$ Hs
  ihave Hd' := (Entails.of_eq (show (oLoc d ↦[oBlk (bs L + 256 * r) t]{fullShare} f₀ : sProp 𝕄)
    = ((oRowM off inb).view.loc (thr d L) ↦[oBlk (bs L + 256 * r) t]{fullShare} f₀) from rfl)) $$ Hd
  iapply (wp_dmaLocal countersEmb 𝒱₀ (thr d L) none (src := bV) (dst := oRowM off inb) (via := .same)
    (default : HIx 1) NO hN (by decide) (Sd := oBlk (bs L + 256 * r) t) ho.le) $$ [Hs' Hd' Hv]
  · isplitl [Hs']; · iexact Hs'
    isplitl [Hd']; · iexact Hd'
    iexact Hv
  iintro HF
  ihave HF' := (Flight_mono countersEmb (thr d L) (sentB d L tab ids f₀ (inb := inb) t r hr ht e)) $$ HF
  iapply Hk $$ [HF']
  iexact HF'

/-- A wait for what is due, under the tile's debt. -/
theorem waitFor {Ψ : α → sProp (MM F)} {sp sp' : Space} {s s' : Shape} {e e' : EltTy} {sem : DmaSem sig} {srcw : Memref sig (thr d L).2.kind sp' s' e'} {dstw : Memref sig (thr d L).2.kind sp s e}
    {hsrc : srcw.view.WordExact} {hdst : dstw.view.WordExact} {N : ℕ} (hN : dstw.view.dmaCredit = N) {R : sProp (MM F)} :
    iprop(MayWaits (thr d L) (default : HIx 1) O ∗ debt d L O W ∗ Flight countersEmb (thr d L) (.dma sem) (default : HIx 1) N R)
      ⊢ iprop((iprop(R ∗ semVal (thr d L, .dma sem) 0 ∗ debt d L O W) -∗ wp frame (wpE (defs₀ (F := F)) 𝒱₀ (thr d L) none) Set.univ (k ⟨⟩) Ψ)
        -∗ wp frame (wpE (defs₀ (F := F)) 𝒱₀ (thr d L) none) Set.univ (.op (.waitDma2 sem srcw dstw hsrc hdst) k) Ψ) := by
  unfold debt
  iintro ⟨Hmw, ⟨%W', %hW, HO⟩, HF⟩ Hk
  iapply (wp_waitLocalO countersEmb 𝒱₀ (thr d L) none (srcw := srcw) (dstw := dstw) (default : HIx 1) hN) $$ [Hmw HO HF]
  · isplitl [HF]; · iexact HF
    isplitl [HO]; · iexact HO
    iapply (MayWaits.elim (SemLoc.dma sem)); iexact Hmw
  iintro ⟨HR, Hv, HO⟩
  iapply Hk
  isplitl [HR]; · iexact HR
  isplitl [Hv]; · iexact Hv
  iexists _; isplitr; swap; · iexact HO
  ipureintro; exact hW.insert _

end Ops

/-! ## The loop -/

/-- The list but for the elements a gather at `a` holds. -/
abbrev lstRest (a : ℕ) : sProp 𝕄 := lLoc d L ↦[Finset.univ \ seg a 256]{fullShare} lst L ids
theorem lst_split (a : ℕ) : (lLoc d L ↦{fullShare} lst L ids : sProp 𝕄) = iprop((lLoc d L ↦[seg a 256]{fullShare} lst L ids) ∗ lstRest d L ids a) := by
  rw [pts_union Finset.disjoint_sdiff, Finset.union_sdiff_of_subset (Finset.subset_univ _)]

/-- Row `h`'s first half of the tile's output, and its second, gathered. -/
abbrev half0 (h : ℕ) : sProp 𝕄 := oLoc d ↦[oBlk (bs L) h]{fullShare} rowsOf tab ids
abbrev half1 (h : ℕ) : sProp 𝕄 := oLoc d ↦[oBlk (bs L + 256) h]{fullShare} rowsOf tab ids
/-- The second rows' buffer idle, at contents unsaid. -/
abbrev idleB : sProp 𝕄 := iprop((∃ f, bLoc d L ↦{fullShare} f) ∗ semVal (thr d L, .dma cc1_scratch8.sem) 0)
/-- Before trip `h`: the second half's copy of the trip before, under way; the halves of the trips before it, done. -/
def pend : ℕ → sProp 𝕄
  | 0 => idleB d L
  | h + 1 => iprop(dueOutB d L tab ids (bs L + 256) h (512 * h + 256) ∗ bigSep (Finset.range h) (half1 d L tab ids))
/-- The rows to come. -/
abbrev todo (h : ℕ) : sProp 𝕄 :=
  bigSep (Finset.Ico h 50) fun r => iprop((oLoc d ↦[oBlk (bs L) r]{fullShare} f₀) ∗ oLoc d ↦[oBlk (bs L + 256) r]{fullShare} f₀)

/-- Before trip `h`: the gather of row `h`'s first half under way, the rows before done but for the last's second half's copy. -/
def inv3 (h : ℕ) (_ : Unit) : sProp 𝕄 :=
  iprop(MayWaits (thr d L) (default : HIx 1) O
    ∗ dueA d L tab ids (512 * min h 49) ∗ lstRest d L ids (512 * min h 49)
    ∗ semVal (thr d L, .dma cc1_scratch6.sem) 0 ∗ semVal (thr d L, .dma cc1_scratch7.sem) 0
    ∗ todo d L f₀ h ∗ bigSep (Finset.range h) (half0 d L tab ids) ∗ pend d L tab ids h ∗ debt d L O W)

theorem cond2_iff (t : Fin k1_t3_loop.trips) : k1_cond2 t = 1#1 ↔ 0 < t.val := by
  revert t; decide +kernel

/-- The wait that every trip but the first begins with: for the second half's copy of the trip before. -/
theorem pend_wait {α : Type} {Ψ : α → sProp (MM F)} (t : Fin k1_t3_loop.trips) {rest : Prog (TpuEff nD τ sig (Elt F) Λ₀ (thr d L).2) α}
    {hsrc : (bV).view.WordExact} {hdst : ∀ h2, (oRowM (k1_off7 L t) (k1_off7_inb L t h2)).view.WordExact} :
    iprop(MayWaits (thr d L) (default : HIx 1) O ∗ debt d L O W ∗ pend d L tab ids t.val)
      ⊢ iprop((iprop(idleB d L ∗ bigSep (Finset.range t.val) (half1 d L tab ids) ∗ debt d L O W)
          -∗ wp frame (wpE (defs₀ (F := F)) 𝒱₀ (thr d L) none) Set.univ rest Ψ)
        -∗ wp frame (wpE (defs₀ (F := F)) 𝒱₀ (thr d L) none) Set.univ
          (if h2 : k1_cond2 t = 1#1 then .op (.waitDma2 cc1_scratch8.sem bV (oRowM (k1_off7 L t) (k1_off7_inb L t h2)) hsrc (hdst h2)) fun _ => rest else rest) Ψ) := by
  by_cases h2 : k1_cond2 t = 1#1
  · rw [dif_pos h2]
    obtain ⟨h, hh⟩ : ∃ h, t.val = h + 1 := Nat.exists_eq_succ_of_ne_zero (Nat.pos_iff_ne_zero.mp ((cond2_iff t).mp h2))
    rw [hh]
    unfold pend
    iintro ⟨Hmw, HO, HF, Hd⟩ Hk
    iapply (waitFor d L O W (srcw := bV) (dstw := oRowM (k1_off7 L t) (k1_off7_inb L t h2)) (N := NO) rfl) $$ [Hmw HO HF]
    · isplitl [Hmw]; · iexact Hmw
      isplitl [HO]; · iexact HO
      iexact HF
    iintro ⟨⟨Ho, Hb⟩, Hv, HO⟩
    iapply Hk
    isplitl [Hb Hv]
    · isplitl [Hb]
      · iexists _; iexact Hb
      iexact Hv
    isplitr [HO]
    · rw [bigSep_range_last]
      isplitl [Ho]; · iexact Ho
      iexact Hd
    iexact HO
  · rw [dif_neg h2]
    have h0 : t.val = 0 := by have := mt (cond2_iff t).mpr h2; omega
    rw [h0]
    unfold pend
    iintro ⟨-, HO, HI⟩ Hk
    iapply Hk
    isplitl [HI]; · iexact HI
    isplitr
    · rw [Finset.range_zero, bigSep_empty]; iempintro
    iexact HO

/-- The part of a trip up to its first copy out: row `t`'s first half out, its second half gathered. -/
theorem part1_step (hids : ∀ x, (ids x : BitVec 32).toNat < 1000) (t : Fin k1_t3_loop.trips) (v2 a1 a2 : BitVec 32) :
    inv3 d L tab ids f₀ O W t.val ⟨⟩ ⊢ wp frame (wpE (defs₀ (F := F)) 𝒱₀ (thr d L) none) Set.univ
      (k1_part1 L eV (Memref.isWhole_whole _) xV (Memref.isWhole_whole _) oV (Memref.isWhole_whole _) shV (Memref.isWhole_whole _) lV (Memref.isWhole_whole _)
        aV (Memref.isWhole_whole _) bV (Memref.isWhole_whole _) cc1_scratch4 cc1_scratch5 cc1_scratch6 cc1_scratch7 cc1_scratch8 cc1_scoped0 v2 a1 a2 t)
      (fun _ => iprop(MayWaits (thr d L) (default : HIx 1) O
        ∗ (aLoc d L ↦{fullShare} gat tab (lst L ids) (512 * t.val)) ∗ semVal (thr d L, .dma cc1_scratch5.sem) 0
        ∗ (bLoc d L ↦{fullShare} gat tab (lst L ids) (512 * t.val + 256)) ∗ semVal (thr d L, .dma cc1_scratch6.sem) 0
        ∗ tblPts d L tab ∗ (lLoc d L ↦{fullShare} lst L ids)
        ∗ semVal (thr d L, .dma cc1_scratch7.sem) 0 ∗ semVal (thr d L, .dma cc1_scratch8.sem) 0
        ∗ (oLoc d ↦[oBlk (bs L + 256) t.val]{fullShare} f₀) ∗ todo d L f₀ (t.val + 1)
        ∗ bigSep (Finset.range (t.val + 1)) (half0 d L tab ids) ∗ bigSep (Finset.range t.val) (half1 d L tab ids) ∗ debt d L O W)) := by
  have ht : t.val < 50 := lt_of_lt_of_eq t.isLt trips3
  rw [k1_part1_eq_skeleton]
  unfold inv3 k1_part1_skel
  rw [show min t.val 49 = t.val from by omega]
  unfold todo
  rw [bigSep_Ico_head ht]
  iintro ⟨#Hmw, HA, Hrest, Hgb, Hoa, ⟨⟨Ho0, Ho1⟩, Htodo⟩, Hdone, Hpend, HO⟩
  unfold SparseCore.waitIndirectGather
  dsimp only [Prog.lift]
  simp only [Prog.bind_op, Prog.bind_ret]
  -- the first half's gather
  iapply (waitFor d L O W (srcw := shM) (dstw := aV) (N := NG) rfl) $$ [HA HO]
  · isplitr; · iexact Hmw
    isplitl [HO]; · iexact HO
    iexact HA
  iintro ⟨⟨Ha, Ht, Hl⟩, Hga, HO⟩
  ihave Hl := (Entails.of_eq (lst_split d L ids (512 * t.val)).symm) $$ [Hl Hrest]
  · isplitl [Hl]; · iexact Hl
    iexact Hrest
  -- the second half's copy of the trip before
  iapply (pend_wait d L tab ids O W t) $$ [Hpend HO]
  · isplitr; · iexact Hmw
    isplitl [HO]; · iexact HO
    iexact Hpend
  iintro ⟨⟨⟨%fb, Hb⟩, Hob⟩, Hdone1, HO⟩
  -- the second half's gather
  ihave Hl := (Entails.of_eq (lst_split d L ids (512 * t.val + 256))) $$ Hl
  icases Hl with ⟨Hl, Hrest⟩
  iapply (gatherB d L tab ids (off := k1_off6 t 256#32) (inb := k1_off6_inb t 1) (a := 512 * t.val + 256) (k1_off6_eq t 1) hids fb) $$ [Ht Hb Hl Hgb]
  · isplitl [Ht]; · iexact Ht
    isplitl [Hb]; · iexact Hb
    isplitl [Hl]; · iexact Hl
    iexact Hgb
  iintro HB
  -- the first half, out
  iapply (outA d L tab ids f₀ (off := k1_off8 L t 0#32) (inb := k1_off8_inb L t 0) t.val 0 (by decide) ht (k1_off8_eq L t 0)) $$ [Ha Ho0 Hoa]
  · isplitl [Ha]; · iexact Ha
    isplitl [Ho0]; · iexact Ho0
    iexact Hoa
  iintro HoA
  -- both waited for
  iapply (waitFor d L O W (srcw := shM) (dstw := bV) (N := NG) rfl) $$ [HB HO]
  · isplitr; · iexact Hmw
    isplitl [HO]; · iexact HO
    iexact HB
  iintro ⟨⟨Hb, Ht, Hl⟩, Hgb, HO⟩
  ihave Hl := (Entails.of_eq (lst_split d L ids (512 * t.val + 256)).symm) $$ [Hl Hrest]
  · isplitl [Hl]; · iexact Hl
    iexact Hrest
  iapply (waitFor d L O W (srcw := aV) (dstw := oRowM (k1_off8 L t 0#32) (k1_off8_inb L t 0)) (N := NO) rfl) $$ [HoA HO]
  · isplitr; · iexact Hmw
    isplitl [HO]; · iexact HO
    iexact HoA
  iintro ⟨⟨Ho0, Ha⟩, Hoa, HO⟩
  sl_step
  isplitr; · iexact Hmw
  isplitl [Ha]; · iexact Ha
  isplitl [Hga]; · iexact Hga
  isplitl [Hb]; · iexact Hb
  isplitl [Hgb]; · iexact Hgb
  isplitl [Ht]; · iexact Ht
  isplitl [Hl]; · iexact Hl
  isplitl [Hoa]; · iexact Hoa
  isplitl [Hob]; · iexact Hob
  isplitl [Ho1]; · iexact Ho1
  isplitl [Htodo]; · iexact Htodo
  isplitl [Ho0 Hdone]
  · rw [bigSep_range_last]
    isplitl [Ho0]; · iexact Ho0
    iexact Hdone
  isplitl [Hdone1]; · iexact Hdone1
  iexact HO

/-- One trip of the main loop. -/
theorem gather_step (hids : ∀ x, (ids x : BitVec 32).toNat < 1000) (v2 : BitVec 32) (t : Fin k1_t3_loop.trips) (acc : Unit) :
    inv3 d L tab ids f₀ O W t.val acc ⊢ wp frame (wpE (defs₀ (F := F)) 𝒱₀ (thr d L) none) Set.univ
      (k1_t3_body L eV (Memref.isWhole_whole _) xV (Memref.isWhole_whole _) oV (Memref.isWhole_whole _) shV (Memref.isWhole_whole _) lV (Memref.isWhole_whole _)
        aV (Memref.isWhole_whole _) bV (Memref.isWhole_whole _) cc1_scratch4 cc1_scratch5 cc1_scratch6 cc1_scratch7 cc1_scratch8 cc1_scoped0 v2 t acc)
      (inv3 d L tab ids f₀ O W (t.val + 1)) := by
  have ht : t.val < 50 := lt_of_lt_of_eq t.isLt trips3
  unfold k1_t3_body
  rw [wp_bind]
  refine (part1_step d L tab ids f₀ O W hids t v2 0#32 1#32).trans (wp_mono _ _ _ fun _ => ?_)
  dsimp only [Prog.lift]
  simp only [Prog.bind_op, Prog.bind_ret]
  unfold inv3
  iintro ⟨#Hmw, Ha, Hga, Hb, Hgb, Ht, Hl, Hoa, Hob, Ho1, Htodo, Hdone, Hdone1, HO⟩
  ihave Hl := (Entails.of_eq (lst_split d L ids (512 * min (t.val + 1) 49))) $$ Hl
  icases Hl with ⟨Hl, Hrest⟩
  iapply (gatherA d L tab ids (off := k1_off9 t) (inb := k1_off9_inb t) (a := 512 * min (t.val + 1) 49) (k1_off9_eq t) hids _) $$ [Ht Ha Hl Hga]
  · isplitl [Ht]; · iexact Ht
    isplitl [Ha]; · iexact Ha
    isplitl [Hl]; · iexact Hl
    iexact Hga
  iintro HA
  iapply (outB d L tab ids f₀ (off := k1_off8 L t 256#32) (inb := k1_off8_inb L t 1) t.val 1 (by decide) ht (k1_off8_eq L t 1)) $$ [Hb Ho1 Hob]
  · isplitl [Hb]; · iexact Hb
    isplitl [Ho1]; · iexact Ho1
    iexact Hob
  iintro HoB
  sl_step
  isplitr; · iexact Hmw
  isplitl [HA]; · iexact HA
  isplitl [Hrest]; · iexact Hrest
  isplitl [Hgb]; · iexact Hgb
  isplitl [Hoa]; · iexact Hoa
  isplitl [Htodo]; · iexact Htodo
  isplitl [Hdone]; · iexact Hdone
  isplitr [HO]
  · unfold pend
    isplitl [HoB]; · iexact HoB
    iexact Hdone1
  iexact HO

end Cert.Proof
end
-- ==== Proof.Tile.lean ====
/-
  The task of one tile: tile 0 copies the table to its SparseCore's shared scratch; each fetches its columns of the indices;
  the barrier; the main loop; the last waits.
-/
module

public import proofs.«01_k».proof.Proof.Gather

@[expose] public section

noncomputable section

namespace Cert.Proof

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MM F

variable (m : (ℓ : Loc nD τ sig) → Buf (Elt F) ℓ) (d : Dev nD) (L : grid1.Coords)
variable (O : CellTallies nD τ sig (HIx 1)) (W : Waits sig (HIx 1))

/-! ## The tile's own cells and buffers -/

omit [FloatOps F] in
theorem sem_ne {a b : SemLoc sig} (h : b ≠ a) : ((thr d L, b) : GSem nD τ sig) ≠ (thr d L, a) := fun e => h (Prod.ext_iff.mp e).2

/-- The tile's own cells: the six the kernel uses and the others. -/
theorem ownSems0_V : (ownSems0 (thr d L) : sProp 𝕄)
    = iprop(semVal (thr d L, .dma cc1_scratch4.sem) 0 ∗ semVal (thr d L, .dma cc1_scratch5.sem) 0 ∗ semVal (thr d L, .dma cc1_scratch6.sem) 0 ∗ semVal (thr d L, .dma cc1_scratch7.sem) 0 ∗ semVal (thr d L, .dma cc1_scratch8.sem) 0 ∗ semVal (thr d L, .dma cc1_scoped0.sem) 0
        ∗ bigSep (((((((ownCells (thr d L)).erase (thr d L, .dma cc1_scratch4.sem)).erase (thr d L, .dma cc1_scratch5.sem)).erase (thr d L, .dma cc1_scratch6.sem)).erase (thr d L, .dma cc1_scratch7.sem)).erase (thr d L, .dma cc1_scratch8.sem)).erase (thr d L, .dma cc1_scoped0.sem)) fun g => semVal g 0) := by
  unfold SparseCore.Cfg.ownSems0
  rw [SparseCore.bigSep_erase' ((mem_ownCells (g := ((thr d L, .dma cc1_scratch4.sem) : GSem nD τ sig))).mpr ⟨rfl, by show (SemLoc.dma cc1_scratch4.sem : SemLoc sig).isScoped .scVector = true; decide⟩),
    SparseCore.bigSep_erase' (Finset.mem_erase.mpr ⟨sem_ne d L (by decide), (mem_ownCells (g := ((thr d L, .dma cc1_scratch5.sem) : GSem nD τ sig))).mpr ⟨rfl, by show (SemLoc.dma cc1_scratch5.sem : SemLoc sig).isScoped .scVector = true; decide⟩⟩),
    SparseCore.bigSep_erase' (Finset.mem_erase.mpr ⟨sem_ne d L (by decide), Finset.mem_erase.mpr ⟨sem_ne d L (by decide), (mem_ownCells (g := ((thr d L, .dma cc1_scratch6.sem) : GSem nD τ sig))).mpr ⟨rfl, by show (SemLoc.dma cc1_scratch6.sem : SemLoc sig).isScoped .scVector = true; decide⟩⟩⟩),
    SparseCore.bigSep_erase' (Finset.mem_erase.mpr ⟨sem_ne d L (by decide), Finset.mem_erase.mpr ⟨sem_ne d L (by decide), Finset.mem_erase.mpr ⟨sem_ne d L (by decide), (mem_ownCells (g := ((thr d L, .dma cc1_scratch7.sem) : GSem nD τ sig))).mpr ⟨rfl, by show (SemLoc.dma cc1_scratch7.sem : SemLoc sig).isScoped .scVector = true; decide⟩⟩⟩⟩),
    SparseCore.bigSep_erase' (Finset.mem_erase.mpr ⟨sem_ne d L (by decide), Finset.mem_erase.mpr ⟨sem_ne d L (by decide), Finset.mem_erase.mpr ⟨sem_ne d L (by decide), Finset.mem_erase.mpr ⟨sem_ne d L (by decide), (mem_ownCells (g := ((thr d L, .dma cc1_scratch8.sem) : GSem nD τ sig))).mpr ⟨rfl, by show (SemLoc.dma cc1_scratch8.sem : SemLoc sig).isScoped .scVector = true; decide⟩⟩⟩⟩⟩),
    SparseCore.bigSep_erase' (Finset.mem_erase.mpr ⟨sem_ne d L (by decide), Finset.mem_erase.mpr ⟨sem_ne d L (by decide), Finset.mem_erase.mpr ⟨sem_ne d L (by decide), Finset.mem_erase.mpr ⟨sem_ne d L (by decide), Finset.mem_erase.mpr ⟨sem_ne d L (by decide), (mem_ownCells (g := ((thr d L, .dma cc1_scoped0.sem) : GSem nD τ sig))).mpr ⟨rfl, by show (SemLoc.dma cc1_scoped0.sem : SemLoc sig).isScoped .scVector = true; decide⟩⟩⟩⟩⟩⟩)]

/-- The tile's own buffers: the list, the two rows' buffers and the others. -/
theorem ownBufs_V : (ownBufs (thr d L) : sProp 𝕄)
    = iprop((∃ f, lLoc d L ↦{fullShare} f) ∗ (∃ f, aLoc d L ↦{fullShare} f) ∗ (∃ f, bLoc d L ↦{fullShare} f)
        ∗ bigSep ((((ownRefs (τ := τ) (.scVector (cV L) (jV L))).erase ((Proc.scVector (cV L) (jV L)).devRef cc1_scratch1)).erase ((Proc.scVector (cV L) (jV L)).devRef cc1_scratch2)).erase ((Proc.scVector (cV L) (jV L)).devRef cc1_scratch3)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc1_scratch1)) rfl),
    SparseCore.bigSep_erase' (Finset.mem_erase.mpr ⟨fun e => absurd (show (cc1_scratch2 : Ref sig .scVector) = cc1_scratch1 from Proc.devRef_injective _ e) (by decide), SparseCore.Cfg.mem_ownRefs_of_owner (p := Proc.scVector (cV L) (jV L)) (b := ((Proc.scVector (cV L) (jV L)).devRef cc1_scratch2)) rfl⟩),
    SparseCore.bigSep_erase' (Finset.mem_erase.mpr ⟨fun e => absurd (show (cc1_scratch3 : Ref sig .scVector) = cc1_scratch2 from Proc.devRef_injective _ e) (by decide), Finset.mem_erase.mpr ⟨fun e => absurd (show (cc1_scratch3 : Ref sig .scVector) = cc1_scratch1 from Proc.devRef_injective _ e) (by decide), SparseCore.Cfg.mem_ownRefs_of_owner (p := Proc.scVector (cV L) (jV L)) (b := ((Proc.scVector (cV L) (jV L)).devRef cc1_scratch3)) rfl⟩⟩)]

/-! ## The copy of the table -/

/-- Tile 0's condition. -/
abbrev headCond (L : grid1.Coords) : Prop :=
  Scalar.cmpi .ne (Scalar.extui (Scalar.cmpi .eq (BitVec.ofNat 32 (L 1).val) 0#32) : BitVec 32) 0#32 = 1#1

theorem headCond_iff : headCond L ↔ (L 1).val = 0 := by
  have h : ∀ i : Fin 16, (Scalar.cmpi .ne (Scalar.extui (Scalar.cmpi .eq (BitVec.ofNat 32 i.val) 0#32) : BitVec 32) 0#32 = 1#1) ↔ i.val = 0 := by decide +kernel
  exact h (L 1)

/-- What tile `L 1` hands over at the barrier. -/
abbrev pays : sProp 𝕄 := bigSep Finset.univ fun j : Fin (grid1.bound 1) => (bRd m).payload (bcell d (cV L) (j.castLE hsub1)) 0 (jV L).val

/-- Tile 0 hands every tile its share of the copied table. -/
theorem pays_head (h : (L 1).val = 0) : (shLoc d (cV L) ↦{fullShare} (tabF m d : Buf (Elt F) (shLoc d (cV L))) : sProp 𝕄) ⊢ pays m d L := by
  rw [pointsTo_piecesOf (o := 16) Finset.univ _ (by decide) fullShare]
  refine Entails.of_eq (bigSep_congr fun j _ => ?_)
  show _ = bPay m (bcell d (cV L) (j.castLE hsub1)) (jV L).val
  unfold bPay; dsimp only
  rw [if_pos (show (jV L).val = 0 from h)]; rfl

/-- The others hand over nothing. -/
theorem pays_rest (h : (L 1).val ≠ 0) : (iprop(emp) : sProp 𝕄) ⊢ pays m d L := by
  rw [show pays m d L = bigSep Finset.univ fun _ : Fin (grid1.bound 1) => (iprop(emp) : sProp 𝕄) from
    bigSep_congr fun j _ => if_neg h, bigSep_emp']

/-- Each tile's own round collects its share. -/
theorem pays_elim : (bigSep ((bRd m).duties (bcell d (cV L) (jV L)) 0 \ ∅) fun n => (bRd m).payload (bcell d (cV L) (jV L)) 0 n)
    ⊢ tblPts d L (tabF m d) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

/-- The beginning of the task: tile 0's copy of the table, waited for. -/
theorem head_step {α : Type} {Ψ : α → sProp (MM F)} {rest : Prog (TpuEff nD τ sig (Elt F) Λ₀ (thr d L).2) α}
    {h1 : (eV).view.WordExact} {h2 : (shV).view.WordExact} {h3} {h4 : (eV).view.WordExact} {h5 : (shV).view.WordExact} :
    iprop(MayWaits (thr d L) (default : HIx 1) O ∗ debt d L O W ∗ headOf m d (cV L) (jV L).val ∗ semVal (thr d L, .dma cc1_scoped0.sem) 0)
      ⊢ iprop((iprop(pays m d L ∗ semVal (thr d L, .dma cc1_scoped0.sem) 0 ∗ debt d L O W)
          -∗ wp frame (wpE (defs₀ (F := F)) 𝒱₀ (thr d L) none) Set.univ rest Ψ)
        -∗ wp frame (wpE (defs₀ (F := F)) 𝒱₀ (thr d L) none) Set.univ
          (if _ : headCond L then .op (.enqueueDma eV (.here shV) (.dma cc1_scoped0.sem) h1 h2 h3) fun _ =>
            .op (.waitDma2 cc1_scoped0.sem eV shV h4 h5) fun _ => rest else rest) Ψ) := by
  by_cases h : headCond L
  · have h0 := (headCond_iff L).mp h
    rw [dif_pos h]
    unfold headOf
    rw [if_pos (show (jV L).val = 0 from h0)]
    iintro ⟨Hmw, HO, ⟨He, %fs, Hs⟩, Hv⟩ Hk
    have hN : (shV).view.amount (SemLoc.dma cc1_scoped0.sem) = (shV).view.dmaCredit := rfl
    have he : (eLoc d ↦{pieceOf fullShare 2 (by decide) (Fin.cast rfl (cV L))} (tabF m d : Buf (Elt F) (eLoc d)) : sProp 𝕄)
        = ((eV).view.loc (thr d L) ↦[(eV).view.set]{pieceOf fullShare 2 (by decide) (Fin.cast rfl (cV L))} tabF m d) := by
      rw [View.set_whole]
    ihave He' := (Entails.of_eq he) $$ He
    ihave Hs' := (Entails.of_eq (show (shLoc d (cV L) ↦{fullShare} fs : sProp 𝕄) = ((shV).view.loc (thr d L) ↦[Finset.univ]{fullShare} fs) from rfl)) $$ Hs
    iapply (wp_dmaLocal countersEmb 𝒱₀ (thr d L) none (src := eV) (dst := shV) (via := .same) (default : HIx 1) (shV).view.dmaCredit hN (by decide)
      (Sd := Finset.univ) (Finset.subset_univ _)) $$ [He' Hs' Hv]
    · isplitl [He']; · iexact He'
      isplitl [Hs']; · iexact Hs'
      iexact Hv
    iintro HF
    iapply (waitFor d L O W (srcw := eV) (dstw := shV) (N := (shV).view.dmaCredit) rfl) $$ [Hmw HO HF]
    · isplitl [Hmw]; · iexact Hmw
      isplitl [HO]; · iexact HO
      iexact HF
    iintro ⟨⟨Hs, -⟩, Hv, HO⟩
    iapply Hk
    isplitl [Hs]
    · iapply (pays_head m d L h0)
      have hw : (shV).view.write (Elt F) fs (ReadAs.same.apply ((eV).view.read (Elt F) (tabF m d))) Finset.univ = tabF m d := by
        rw [View.read_whole]; exact View.write_whole_univ _ _ _
      rw [hw]
      iexact Hs
    isplitl [Hv]; · iexact Hv
    iexact HO
  · have h0 : (L 1).val ≠ 0 := mt (headCond_iff L).mpr h
    rw [dif_neg h]
    iintro ⟨-, HO, -, Hv⟩ Hk
    iapply Hk
    isplitr
    · iapply (pays_rest m d L h0); iempintro
    isplitl [Hv]; · iexact Hv
    iexact HO

/-! ## The task -/

/-- The tile's part of the operands, with the columns in rows and the output in halves of rows. -/
theorem ops_rows : (opsPts m d (L 0).val (L 1).val : sProp 𝕄)
    = iprop((bigSep (Finset.range 50) fun h => xLoc d ↦[xRow (bs L) h]{fullShare} (idsF m d : Buf (Elt F) (xLoc d))) ∗ todo d L (m (oLoc d)) 0) := by
  unfold opsPts todo
  rw [bigSep_Ico_zero, ← pts_oRows d (bs L) (m (oLoc d)), ← pts_xRows d (idsF m d) (bs L)]

/-- The halves of every row, gathered, are the tile's part of the output. -/
theorem done_rows : iprop(bigSep (Finset.range 50) (half0 d L (tabF m d) (idsF m d)) ∗ bigSep (Finset.range 50) (half1 d L (tabF m d) (idsF m d)))
    = (donePts m d (L 0).val (L 1).val : sProp 𝕄) := by
  rw [← bigSep_sep']
  exact (pts_oRows d (bs L) (outF m d)).symm

/-- What is left at the end of the main part: the gather the last trip issued, still under way. -/
abbrev leftOver : sProp 𝕄 :=
  iprop(dueA d L (tabF m d) (idsF m d) (512 * 49) ∗ lstRest d L (idsF m d) (512 * 49) ∗ (∃ f, bLoc d L ↦{fullShare} f))

set_option maxHeartbeats 4000000 in
/-- The main part of the task: up to the wait for the last copy out. -/
theorem part2_body (hids : ∀ x, (idsF m d x : BitVec 32).toNat < 1000) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (opsPts m d (L 0).val (L 1).val ∗ headOf m d (cV L) (jV L).val)
        ∗ ((∃ f, lLoc d L ↦{fullShare} f) ∗ (∃ f, aLoc d L ↦{fullShare} f) ∗ (∃ f, bLoc d L ↦{fullShare} f))
        ∗ (semVal (thr d L, .dma cc1_scratch4.sem) 0 ∗ semVal (thr d L, .dma cc1_scratch5.sem) 0 ∗ semVal (thr d L, .dma cc1_scratch6.sem) 0 ∗ semVal (thr d L, .dma cc1_scratch7.sem) 0 ∗ semVal (thr d L, .dma cc1_scratch8.sem) 0 ∗ semVal (thr d L, .dma cc1_scoped0.sem) 0) ∗ owes (thr d L) (O + oxV d (cV L)) W)
      ⊢ wp frame (wpE (defs₀ (F := F)) 𝒱₀ (thr d L) none) Set.univ
          (k1_part2 L eV (Memref.isWhole_whole _) xV (Memref.isWhole_whole _) oV (Memref.isWhole_whole _) shV (Memref.isWhole_whole _) lV (Memref.isWhole_whole _)
        aV (Memref.isWhole_whole _) bV (Memref.isWhole_whole _) cc1_scratch4 cc1_scratch5 cc1_scratch6 cc1_scratch7 cc1_scratch8 cc1_scoped0)
          fun _ => iprop(leftOver m d L ∗ MayWaits (thr d L) (default : HIx 1) O ∗ donePts m d (L 0).val (L 1).val ∗ semVal (bcell d (cV L) (jV L)) 0
            ∗ (semVal (thr d L, .dma cc1_scratch4.sem) 0 ∗ semVal (thr d L, .dma cc1_scratch6.sem) 0 ∗ semVal (thr d L, .dma cc1_scratch7.sem) 0
              ∗ semVal (thr d L, .dma cc1_scratch8.sem) 0 ∗ semVal (thr d L, .dma cc1_scoped0.sem) 0) ∗ debt d L O W) := by
  rw [k1_part2_eq_skeleton, ops_rows]
  unfold k1_part2_skel bkit
  iintro ⟨#Hlv, ⟨⟨%κ, #Hinv⟩, Htoks, #Hrch, Hat, Hcred⟩, ⟨⟨Hx, Htodo⟩, Hhead⟩, ⟨⟨%fl, Hl⟩, ⟨%fa, Ha⟩, Hb⟩, ⟨Hisem, Hga, Hgb, Hoa, Hob, Hcp⟩, HO⟩
  have hO' : ∀ g, (O + oxV d (cV L)) g none = 0 := fun g => by rw [Pi.add_apply, Finsupp.add_apply, hO g, oxV_none]
  ihave #Hmw1 := (show levAts (K (F := F)).L (K (F := F)).lev ⊢ MayWaits (thr d L) (default : HIx 1) (O + oxV d (cV L)) from
    (K (F := F)).mayWaits_none (thr := thr d L) hO') $$ Hlv
  ihave #Hmw2 := (show levAts (K (F := F)).L (K (F := F)).lev ⊢ MayWaits (thr d L) (default : HIx 1) O from
    (K (F := F)).mayWaits_none (thr := thr d L) hO) $$ Hlv
  ihave HO := (show owes (thr d L) (O + oxV d (cV L)) W ⊢ (debt d L (O + oxV d (cV L)) W : sProp 𝕄) from by
    unfold debt
    iintro HO
    iexists W; isplitr; · ipureintro; exact WOk.refl W
    iexact HO) $$ HO
  dsimp only [Prog.lift]
  simp only [Prog.bind_op, Prog.bind_ret]
  -- the copy of the table
  iapply (head_step m d L (O + oxV d (cV L)) W) $$ [HO Hhead Hcp]
  · isplitr; · iexact Hmw1
    isplitl [HO]; · iexact HO
    isplitl [Hhead]; · iexact Hhead
    iexact Hcp
  iintro ⟨Hpays, Hcp, HO⟩
  -- the fetches
  imod (batch_alloc' countersEmb (c := thr d L) (sm := SemLoc.dma cc1_scratch4.sem) (default : HIx 1) NF (gotRow d L (idsF m d))) $$ Hisem with HB
  iapply (Scf.wp_for_bind (I := inv1 d L (idsF m d) fl) _ _ _ _ _ _ _ _ _ (fetch_step d L (idsF m d) fl)) $$ [HB Hx Hl]
  · unfold inv1
    isplitl [HB]; · iexact HB
    rw [bigSep_Ico_zero, bigSep_sep', ← pts_segs d L fl]
    isplitl [Hx]; · iexact Hx
    iexact Hl
  iintro %_ HI
  rw [show Scf.trips k1_t1_loop.lb k1_t1_loop.ub k1_t1_loop.st = 50 from trips1]
  unfold inv1
  icases HI with ⟨HB, -⟩
  -- the waits for them
  iapply (Scf.wp_for_bind (I := inv2 d L (idsF m d) (O + oxV d (cV L)) W) _ _ _ _ _ _ _ _ _ (wait_step d L (idsF m d) (O + oxV d (cV L)) W)) $$ [HB HO]
  · unfold inv2
    rw [if_pos (by decide), Nat.zero_mul]
    isplitr; · iexact Hmw1
    isplitl [HB]; · iexact HB
    iexact HO
  iintro %_ HI
  rw [show Scf.trips k1_t2_loop.lb k1_t2_loop.ub k1_t2_loop.st = 50 from trips2]
  unfold inv2
  rw [if_neg (by decide), list_join]
  icases HI with ⟨-, ⟨Hl, Hisem⟩, HO⟩
  -- the barrier
  ihave HO := (show (debt d L (O + oxV d (cV L)) W : sProp 𝕄) ⊢ iprop(∃ W', ⌜WOk W W'⌝ ∗ owes (thr d L) (O + oxV d (cV L)) W') from Entails.refl _) $$ HO
  icases HO with ⟨%W₁, %hW₁, HO⟩
  iapply (SparseCore.wp_subcoreBarrier 𝒱₀ none EB (bRd m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_succ m _)) $$ [Hat] with Hbar
  · isplitr
    · iapply (SparseCore.ent (bigSep_elim (Φ := fun j : Fin (grid1.bound 1) =>
        (cellInv EB (bRd m) (κ (bcell d (cV L) (j.castLE hsub1))) (bcell d (cV L) (j.castLE hsub1)) : sProp 𝕄)) (Finset.mem_univ (L 1)))); iexact Hinv
    · iexact Hat
  ihave Ht := (pays_elim m d L) $$ Hgot
  ihave HO := (show owes (thr d L) O (insert (SemLoc.reg sc_bar0, some (0 : Fin 1)) W₁) ⊢ (debt d L O W : sProp 𝕄) from by
    unfold debt
    iintro HO
    iexists _; isplitr; swap; · iexact HO
    ipureintro; exact hW₁.insert_call _) $$ HO
  -- the first gather
  ihave Hl := (Entails.of_eq (lst_split d L (idsF m d) 0)) $$ Hl
  icases Hl with ⟨Hl, Hrest⟩
  iapply (gatherA d L (tabF m d) (idsF m d) (off := k1_off5 0#32) (inb := k1_off5_inb 0) (a := 0) (k1_off5_eq 0) hids fa) $$ [Ht Ha Hl Hga]
  · isplitl [Ht]; · iexact Ht
    isplitl [Ha]; · iexact Ha
    isplitl [Hl]; · iexact Hl
    iexact Hga
  iintro HA
  -- the main loop
  iapply (Scf.wp_for_bind (I := inv3 d L (tabF m d) (idsF m d) (m (oLoc d)) O W) _ _ _ _ _ _ _ _ _
    (gather_step d L (tabF m d) (idsF m d) (m (oLoc d)) O W hids _)) $$ [HA Hrest Hgb Hoa Htodo Hb Hob HO]
  · unfold inv3 pend
    isplitr; · iexact Hmw2
    isplitl [HA]; · iexact HA
    isplitl [Hrest]; · iexact Hrest
    isplitl [Hgb]; · iexact Hgb
    isplitl [Hoa]; · iexact Hoa
    isplitl [Htodo]; · iexact Htodo
    isplitr; · rw [Finset.range_zero, bigSep_empty]; iempintro
    isplitl [Hb Hob]
    · isplitl [Hb]; · iexact Hb
      iexact Hob
    iexact HO
  iintro %_ HI
  rw [show Scf.trips k1_t3_loop.lb k1_t3_loop.ub k1_t3_loop.st = 50 from trips3]
  unfold inv3 pend
  icases HI with ⟨-, HA, Hrest, Hgb, Hoa, -, Hdone, ⟨HoB, Hdone1⟩, HO⟩
  -- the last copy out
  iapply (waitFor d L O W (srcw := bV) (dstw := oRowM (k1_off10 L) (k1_off10_inb L)) (N := NO) rfl) $$ [HoB HO]
  · isplitr; · iexact Hmw2
    isplitl [HO]; · iexact HO
    iexact HoB
  iintro ⟨⟨Ho, Hb⟩, Hob, HO⟩
  sl_step
  isplitl [HA Hrest Hb]
  · isplitl [HA]; · iexact HA
    isplitl [Hrest]; · iexact Hrest
    iexists _; iexact Hb
  isplitr; · iexact Hmw2
  isplitl [Hdone Hdone1 Ho]
  · rw [← done_rows m d L]
    isplitl [Hdone]; · iexact Hdone
    rw [bigSep_range_last 49]
    isplitl [Ho]; · iexact Ho
    iexact Hdone1
  isplitl [Hbar]; · iexact Hbar
  isplitr [HO]; swap; · iexact HO
  isplitl [Hisem]; · iexact Hisem
  isplitl [Hgb]; · iexact Hgb
  isplitl [Hoa]; · iexact Hoa
  isplitl [Hob]; · iexact Hob
  iexact Hcp

set_option maxHeartbeats 4000000 in
/-- The task on vector subcore `(L 0, L 1)` of device `d`: from its part of the operands, its part of the output gathered and
    its share of the copied table. -/
theorem tile_body (hids : ∀ x, (idsF m d x : BitVec 32).toNat < 1000) (hF : (K (F := F)).Facts) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (opsPts m d (L 0).val (L 1).val ∗ headOf m d (cV L) (jV L).val)
        ∗ scopedBufs (thr d L) ∗ scopedSems0 (thr d L) ∗ owes (thr d L) (O + oxV d (cV L)) W)
      ⊢ wp frame (wpE (defs₀ (F := F)) 𝒱₀ (thr d L) none) Set.univ
          (cc1__gather_body L eV (Memref.isWhole_whole _) xV (Memref.isWhole_whole _) oV (Memref.isWhole_whole _) shV (Memref.isWhole_whole _) lV (Memref.isWhole_whole _)
        aV (Memref.isWhole_whole _) bV (Memref.isWhole_whole _) cc1_scratch4 cc1_scratch5 cc1_scratch6 cc1_scratch7 cc1_scratch8 cc1_scoped0)
          fun _ => iprop(((donePts m d (L 0).val (L 1).val ∗ semVal (bcell d (cV L) (jV L)) 0) ∗ tblPts d L (tabF m d))
            ∗ scopedBufs (thr d L) ∗ scopedSems0 (thr d L)
            ∗ ∃ W', ⌜WOk W W'⌝ ∗ owes (thr d L) O W') := by
  rw [cc1__gather_body_eq_skeleton]
  unfold cc1__gather_body_skel
  rw [(K (F := F)).scopedBufs_V hF d (cV L) (jV L), SparseCore.Cfg.scopedSems0_V (Val := Elt F) d (cV L) (jV L), ownSems0_V, ownBufs_V]
  iintro ⟨#Hlv, Hkit, Hops, ⟨Hl, Ha, Hb, Hbufs⟩, ⟨H4, H5, H6, H7, H8, Hcp, Hsems⟩, HO⟩
  rw [wp_bind]
  ihave Hw := (part2_body m d L O W hids hO hOlev) $$ [Hkit Hops Hl Ha Hb H4 H5 H6 H7 H8 Hcp HO]
  · isplitr; · iexact Hlv
    isplitl [Hkit]; · iexact Hkit
    isplitl [Hops]; · iexact Hops
    isplitl [Hl Ha Hb]
    · isplitl [Hl]; · iexact Hl
      isplitl [Ha]; · iexact Ha
      iexact Hb
    isplitr [HO]; swap; · iexact HO
    isplitl [H4]; · iexact H4
    isplitl [H5]; · iexact H5
    isplitl [H6]; · iexact H6
    isplitl [H7]; · iexact H7
    isplitl [H8]; · iexact H8
    iexact Hcp
  iapply (wp_wand _ _ _) $$ Hw
  iintro %_ ⟨⟨HA, Hrest, Hb⟩, #Hmw, Hdone, Hbar, ⟨H4, H6, H7, H8, Hcp⟩, HO⟩
  unfold SparseCore.waitIndirectGather
  dsimp only [Prog.lift]
  simp only [Prog.bind_op, Prog.bind_ret]
  -- the last gather
  iapply (waitFor d L O W (srcw := shM) (dstw := aV) (N := NG) rfl) $$ [HA HO]
  · isplitr; · iexact Hmw
    isplitl [HO]; · iexact HO
    iexact HA
  iintro ⟨⟨Ha, Ht, Hl⟩, H5, HO⟩
  ihave Hl := (Entails.of_eq (lst_split d L (idsF m d) (512 * 49)).symm) $$ [Hl Hrest]
  · isplitl [Hl]; · iexact Hl
    iexact Hrest
  sl_step
  isplitl [Hdone Hbar Ht]
  · isplitr [Ht]; swap; · iexact Ht
    isplitl [Hdone]; · iexact Hdone
    iexact Hbar
  isplitl [Hl Ha Hb Hbufs]
  · isplitl [Hl]; · iexists _; iexact Hl
    isplitl [Ha]; · iexists _; iexact Ha
    isplitl [Hb]; · iexact Hb
    iexact Hbufs
  isplitl [H4 H5 H6 H7 H8 Hcp Hsems]
  · isplitl [H4]; · iexact H4
    isplitl [H5]; · iexact H5
    isplitl [H6]; · iexact H6
    isplitl [H7]; · iexact H7
    isplitl [H8]; · iexact H8
    isplitl [Hcp]; · iexact Hcp
    iexact Hsems
  unfold debt
  iexact HO

end Cert.Proof
end
-- ==== Proof.Launch.lean ====
/-
  The launch of the one call: the tile's obligation from the tile's body, the sequencer's split of the operands among its
  tiles, and the ghost state the launch allocates and deals.
-/
module

public import proofs.«01_k».proof.Proof.Tile

@[expose] public section

noncomputable section

namespace Cert.Proof

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MM F

variable (m : (ℓ : Loc nD τ sig) → Buf (Elt F) ℓ)

/-! ## The tile's obligation -/

/-- The grid point of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- What the body table runs on a tile: the gather kernel at the tile's grid point. -/
theorem defs₀_vector (c : Fin τ.nSC) (s : Fin τ.nSub) :
    defs₀ (F := F) (.scVector c s) 1 ()
      = SparseCore.onTile hcore1 hsub1 (fun c s => cc1__gather_body (coordsV c s)
          eV (Memref.isWhole_whole _) xV (Memref.isWhole_whole _) oV (Memref.isWhole_whole _) shV (Memref.isWhole_whole _)
          lV (Memref.isWhole_whole _) aV (Memref.isWhole_whole _) bV (Memref.isWhole_whole _)
          cc1_scratch4 cc1_scratch5 cc1_scratch6 cc1_scratch7 cc1_scratch8 cc1_scoped0) ⟨⟩ c s := rfl

set_option maxRecDepth 16384 in
/-- Every tile's obligation, when every index is a row number of the table. -/
theorem tileObl (hids : ∀ d x, (idsF m d x : BitVec 32).toNat < 1000) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W (hids d) facts hO hOlev

/-! ## The sequencer's split -/

omit [FloatOps F] in
/-- The shared scratch is among the sequencer's own buffers: it at some contents, and the others. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- Only tile 0's task takes the table's share and the shared scratch. -/
theorem heads_eq (d : Dev nD) (c : Fin τ.nSC) : (bigSep Finset.univ fun i : Fin 16 => headOf m d c i.val) = headPts m d c := by
  have hrest : (bigSep ((Finset.univ : Finset (Fin 16)).erase 0) fun i : Fin 16 => headOf m d c i.val) = (iprop(emp) : sProp 𝕄) :=
    (bigSep_congr fun i hi => if_neg fun h => (Finset.mem_erase.mp hi).1 (Fin.ext h)).trans (bigSep_emp' _)
  rw [SparseCore.bigSep_erase' (Finset.mem_univ (0 : Fin 16)), hrest, show headOf m d c (0 : Fin 16).val = headPts m d c from if_pos rfl]
  have h1 : iprop(headPts m d c ∗ emp) ⊢ headPts m d c := sep_elim_left
  have h2 : headPts m d c ⊢ iprop(headPts m d c ∗ emp) := by
    iintro H; isplitl [H]; · iexact H
    iempintro
  exact BI.equiv_iff.mp ⟨h1, h2⟩

/-- The sixteen tiles' shares of the copied table are the shared scratch whole. -/
theorem shares_join (d : Dev nD) (c : Fin τ.nSC) (f : Buf (Elt F) (shLoc d c)) :
    (bigSep Finset.univ fun j : Fin 16 => shPiece d c j f) = (shLoc d c ↦{fullShare} f : sProp 𝕄) :=
  (pointsTo_piecesOf (o := 16) Finset.univ f (by decide) fullShare).symm

theorem vecSplit : (K (F := F)).VecSplit (P m) 0 := by
  intro d c
  show iprop(iprop(tabPts m d (Fin.cast rfl (coreOf (F := F) c)) ∗ bigSep Finset.univ fun i : Fin 16 => opsPts m d c.val i.val) ∗ ownBufs (S d (coreOf (F := F) c)))
    ⊢ |={Set.univ}=> iprop(
      (bigSep Finset.univ fun i : Fin 16 => iprop(opsPts m d c.val i.val ∗ headOf m d (coreOf (F := F) c) i.val))
      ∗ ((bigSep Finset.univ fun i : Fin 16 => iprop((donePts m d c.val i.val ∗ semVal (bcell d (coreOf (F := F) c) (subOf (F := F) i)) 0)
            ∗ shPiece d (coreOf (F := F) c) i (tabF m d)))
          -∗ iprop((bigSep Finset.univ fun i : Fin 16 => iprop(donePts m d c.val i.val ∗ semVal (bcell d (coreOf (F := F) c) (subOf (F := F) i)) 0))
            ∗ ownBufs (S d (coreOf (F := F) c)))))
  rw [bigSep_sep' _ (fun i : Fin 16 => opsPts m d c.val i.val), heads_eq,
    bigSep_sep' _ (fun i : Fin 16 => iprop(donePts m d c.val i.val ∗ semVal (bcell d (coreOf (F := F) c) (subOf (F := F) i)) 0)), shares_join, ownBufs_S]
  iintro ⟨⟨Ht, Hops⟩, Hsh, Hrest⟩; imodintro
  isplitl [Ht Hops Hsh]
  · isplitl [Hops]; · iexact Hops
    isplitl [Ht]; · iexact Ht
    iexact Hsh
  iintro ⟨Hdone, Hsh⟩
  isplitl [Hdone]; · iexact Hdone
  isplitl [Hsh]; · iexists _; iexact Hsh
  iexact Hrest

/-! ## The ghost state of the launch -/

abbrev DCI : Type := Dev nD × Fin τ.nSC × Fin τ.nSub
abbrev bcell₃ (x : DCI) : GSem nD τ sig := bcell x.1 x.2.1 x.2.2

/-- The barrier cells: of the free semaphores, the ones the certificate takes at the launch. -/
def bCells : Finset (GSem nD τ sig) := (Finset.univ : Finset DCI).image bcell₃
/-- Each tile's token in every cell of its SparseCore. -/
def bToks : Finset (GSem nD τ sig × ℕ × ℕ) :=
  ((Finset.univ : Finset DCI) ×ˢ Finset.univ).image fun x : DCI × Fin (grid1.bound 1) => (bcell x.1.1 x.1.2.1 (x.2.castLE hsub1), 0, x.1.2.2.val)

/-- The pipeline's one admissible table of prefetched operands: none. -/
abbrev adm : (p : Fin 1) → (pcfgs (F := F) p).Adm := fun p => (cfgs p).toPCfg_adm

theorem pinj : Function.Injective (Pipeline.cellOf (nD := nD) (τ := τ) (Pipeline.pin (pcfgs (F := F)) adm)) := cellOf_inj

/-- The launch's element: the handshakes', the barrier's and the pipeline's cells and tokens. -/
def u₀ : UU := (initOf (K (F := F)).hsCells (K (F := F)).hsToks, (initOf bCells bToks,
  (initOf (Pipeline.cells (Pipeline.pin (pcfgs (F := F)) adm) pinj) (Pipeline.launchToks (Pipeline.pin (pcfgs (F := F)) adm) pinj), 1)))

omit [FloatOps F] in
theorem bcell₃_injective : Function.Injective (bcell₃ : DCI → GSem nD τ sig) := by
  rintro ⟨d, c, i⟩ ⟨d', c', i'⟩ e
  have e1 := (Prod.mk.inj e).1
  obtain ⟨rfl, h⟩ := Prod.mk.inj e1
  obtain ⟨rfl, rfl⟩ := Proc.scVector.inj h
  rfl

omit [FloatOps F] in
/-- The launch's element splits into its three parts. -/
theorem ownU_split (a : UH) (b : UB) (p : UP) : (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU (((1 : UH), (b, (p, (1 : Counters)))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU (((1 : UH), (b, (p, (1 : Counters)))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact h1.trans (sep_mono_right h2)

/-- Every barrier semaphore at zero, out of the free semaphores the launch hands over. -/
theorem sems_b : ((K (F := F)).freeOn (· ∈ bCells) : sProp 𝕄) ⊢ bigSep Finset.univ fun x : DCI => semVal (bcell₃ x) 0 := by
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ x)⟩)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- The barrier cells' invariants, allocated at once. -/
theorem invs_b : iprop((bigSep Finset.univ fun x : DCI => (semVal (bcell₃ x) 0 : sProp 𝕄)) ∗ bigSep bCells fun g => roundState EB (bRd m) g 0)
    ⊢ |={Set.univ}=> iprop(∃ κ : GSem nD τ sig → ℕ, bigSep Finset.univ fun x : DCI => cellInv EB (bRd m) (κ (bcell₃ x)) (bcell₃ x)) := by
  rw [← bCells_eq (F := F) (fun g => semVal g 0)]
  refine (Rounds.bodies_intro EB (bRd m) bCells).trans ((inv_alloc_family bCells (Rounds.body EB (bRd m)) ∅ (E := Set.univ)).trans ?_)
  iintro H
  imod H with ⟨%κ, -, Hinv⟩
  imodintro; iexists κ
  iapply (Entails.of_eq (bCells_eq (F := F) fun g => cellInv EB (bRd m) (κ g) g)); iexact Hinv

omit [FloatOps F] in
theorem sum_units (g : GSem nD τ sig) (ι : HIx 1) (n : ℕ) : ∑ _ : Fin n, tallyAt g ι 1 = (tallyAt g ι n : CellTallies nD τ sig (HIx 1)) := by
  induction n with
  | zero => rw [tallyAt_zero]; rfl
  | succ n ih => rw [Fin.sum_univ_castSucc, ih, tallyAt_add]

/-- The credit for the kernels' own debts, regrouped: each tile the sixteen units of its own cell. -/
theorem creds_b : ((P m).oxCred : sProp 𝕄) ⊢ bigSep Finset.univ fun x : DCI => cred (tallyAt (bcell₃ x) (some 0) (grid1.bound 1)) := by
  unfold SparseCore.Cfg.Pay.oxCred
  rw [SparseCore.Cfg.bigSep_threads (fun thr : Thread nD τ => (cred ((P m).oxFrom 0 thr) : sProp 𝕄))]
  refine sep_elim_right.trans (sep_elim_right.trans ?_)
  rw [bigSep_univ_prod, bigSep_univ_prod (fun x : DCI => (cred (tallyAt (bcell₃ x) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  have hox : ∀ i, (P m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_units]; rfl

omit [FloatOps F] in
/-- The tokens, tile by tile. -/
theorem toks_eq : (bigSep bToks fun x => (dutyTok EB x.1 x.2.1 x.2.2 : sProp 𝕄))
    = bigSep Finset.univ fun x : DCI => bigSep Finset.univ fun j : Fin (grid1.bound 1) => dutyTok EB (bcell x.1 x.2.1 (j.castLE hsub1)) 0 x.2.2.val := by
  unfold bToks
  rw [SparseCore.bigSep_image_of_injOn, SparseCore.bigSep_product]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, hj⟩ := Proc.scVector.inj h
  obtain rfl : i = i' := Fin.ext (Prod.mk.inj e2).2
  obtain rfl : j = j' := Fin.ext (congrArg Fin.val hj)
  rfl

omit [FloatOps F] in
/-- A persistent resource gives every member of a family what it gives one. -/
theorem bigSep_of_all {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    have ih' := ih fun i hi => h i (Finset.mem_insert_of_mem hi)
    rw [SparseCore.bigSep_insert' ha, SparseCore.bigSep_insert' ha]
    iintro ⟨#HR, Ha, Hs⟩
    isplitl [Ha]
    · iapply (h a (Finset.mem_insert_self _ _)); isplitr; · iexact HR
      iexact Ha
    · iapply ih'; isplitr; · iexact HR
      iexact Hs

/-- What every tile is handed alike: every barrier cell's invariant, and that each has reached round 0. -/
abbrev common : sProp 𝕄 :=
  iprop((∃ κ : GSem nD τ sig → ℕ, bigSep Finset.univ fun x : DCI => cellInv EB (bRd m) (κ (bcell₃ x)) (bcell₃ x))
    ∗ bigSep Finset.univ fun x : DCI => reached EB (bcell₃ x) 0)
/-- What a tile is handed of its own: its position, its tokens, its credit. -/
abbrev own1 (x : DCI) : sProp 𝕄 :=
  iprop(atPos EB (bcell₃ x) 0 ∅ 0
    ∗ (bigSep Finset.univ fun j : Fin (grid1.bound 1) => dutyTok EB (bcell x.1 x.2.1 (j.castLE hsub1)) 0 x.2.2.val)
    ∗ cred (tallyAt (bcell₃ x) (some 0) (grid1.bound 1)))

/-- A family over all tiles of all SparseCores, at one SparseCore's tiles. -/
theorem of_tiles (x : DCI) (Φ : GSem nD τ sig → sProp 𝕄) (hP : ∀ g, BI.Persistent (Φ g)) :
    (bigSep Finset.univ fun y : DCI => Φ (bcell₃ y)) ⊢ bigSep Finset.univ fun j : Fin (grid1.bound 1) => Φ (bcell x.1 x.2.1 (j.castLE hsub1)) := by
  have key := bigSep_of_all (F := F) (s := (Finset.univ : Finset (Fin (grid1.bound 1)))) (R := bigSep Finset.univ fun y : DCI => Φ (bcell₃ y)) (Φ := fun _ => iprop(emp))
    (Ψ := fun j => Φ (bcell x.1 x.2.1 (j.castLE hsub1))) fun j _ =>
      sep_elim_left.trans (bigSep_elim (Φ := fun y : DCI => Φ (bcell₃ y)) (Finset.mem_univ (x.1, x.2.1, j.castLE hsub1)))
  rw [bigSep_emp'] at key
  iintro H; iapply key; isplitl; · iexact H
  iempintro

/-- One tile's kit out of those. -/
theorem kit_intro (x : DCI) : iprop(common m ∗ own1 x) ⊢ bkit m x.1 x.2.1 x.2.2 := by
  unfold bkit
  iintro ⟨⟨⟨%κ, #Hinv⟩, #Hr⟩, Hat, Htok, Hcred⟩
  isplitr
  · iexists κ
    iapply (of_tiles x (fun g => cellInv EB (bRd m) (κ g) g) fun _ => inferInstance); iexact Hinv
  isplitl [Htok]; · iexact Htok
  isplitr
  · iapply (of_tiles x (fun g => reached EB g 0) fun _ => inferInstance); iexact Hr
  isplitl [Hat]; · iexact Hat
  iexact Hcred

/-- Each tile its kit; the other threads nothing. -/
theorem kits_deal :
    iprop(common m ∗ (bigSep Finset.univ fun x : DCI => atPos EB (bcell₃ x) 0 ∅ 0)
        ∗ (bigSep Finset.univ fun x : DCI => bigSep Finset.univ fun j : Fin (grid1.bound 1) => dutyTok EB (bcell x.1 x.2.1 (j.castLE hsub1)) 0 x.2.2.val)
        ∗ (bigSep Finset.univ fun x : DCI => cred (tallyAt (bcell₃ x) (some 0) (grid1.bound 1))))
      ⊢ (bigSep Finset.univ fun t : Thread nD τ => bigSep Finset.univ fun q : Fin 1 => (P m).x q t : sProp 𝕄) := by
  rw [SparseCore.Cfg.bigSep_threads (fun t : Thread nD τ => bigSep Finset.univ fun q : Fin 1 => (P m).x q t)]
  have hT : ∀ d : Dev nD, (bigSep Finset.univ fun q : Fin 1 => (P m).x q (SparseCore.T d)) = iprop(emp) := fun d => bigSep_univ_of_subsingleton (0 : Fin 1)
  have hS : ∀ (d : Dev nD) (c : Fin τ.nSC), (bigSep Finset.univ fun q : Fin 1 => (P m).x q (S d c)) = iprop(emp) := fun d c => bigSep_univ_of_subsingleton (0 : Fin 1)
  have hV : ∀ (d : Dev nD) (c : Fin τ.nSC) (i : Fin τ.nSub), (bigSep Finset.univ fun q : Fin 1 => (P m).x q (V d c i)) = bkit m d c i :=
    fun d c i => bigSep_univ_of_subsingleton (0 : Fin 1)
  simp only [hT, hS, hV, bigSep_emp']
  iintro ⟨#Hsh, Hat, Htok, Hcred⟩
  isplitr; · iempintro
  isplitr; · iempintro
  iapply (bigSep_of_all (R := common m) (Φ := own1 (F := F)) (Ψ := fun x : DCI => bkit m x.1 x.2.1 x.2.2) fun x _ => kit_intro m x)
  isplitr; · iexact Hsh
  unfold own1
  rw [bigSep_sep', bigSep_sep']
  isplitl [Hat]; · iexact Hat
  isplitl [Htok]; · iexact Htok
  iexact Hcred

/-- What the launch hands a TensorCore's thread: its pipeline's cells and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The launch's element gives the handshakes' part, the pipeline's ghost state to each TensorCore, and every tile its kit. -/
theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun d : Dev nD => G (F := F) d)
        ∗ (bigSep Finset.univ fun t : Thread nD τ => bigSep Finset.univ fun q : Fin 1 => (P m).x q t) : sProp 𝕄) := by
  unfold u₀ G
  rw [bigSep_sep']
  iintro ⟨Hu, Hcred, Hfree⟩
  ihave H := (ownU_split _ _ _) $$ Hu
  icases H with ⟨HH, HB, HP⟩
  imod (Rounds.fund EB (bRd m) bCells bToks) $$ HB with ⟨Hst, #Hr, Hat, Htok⟩
  imod (Pipeline.fund_ghost (Pipeline.pin (pcfgs (F := F)) adm) EP pinj) $$ HP with ⟨HG, HT⟩
  ihave Hsems := (sems_b (F := F)) $$ Hfree
  imod (invs_b m) $$ [Hsems Hst] with ⟨%κ, #Hinv⟩
  · isplitl [Hsems] <;> iassumption
  ihave Hcred' := (creds_b m) $$ Hcred
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG HT]
  · isplitl [HG]
    · iapply (SparseCore.ent (bigSep_mono (Φ := fun d : Dev nD => bigSep Finset.univ fun p : Fin 1 => Pipeline.cellsGhost (Pipeline.pin (pcfgs (F := F)) adm) EP p d)
        fun d _ => Entails.of_eq (bigSep_univ_of_subsingleton (0 : Fin 1)))); iexact HG
    · iapply (SparseCore.ent (bigSep_mono (Φ := fun d : Dev nD => bigSep Finset.univ fun p : Fin 1 => Pipeline.toksInit (Pipeline.pin (pcfgs (F := F)) adm) EP p d)
        fun d _ => Entails.of_eq (bigSep_univ_of_subsingleton (0 : Fin 1)))); iexact HT
  iapply (kits_deal m)
  isplitr
  · isplitl; · iexists κ; iexact Hinv
    iexact Hr'
  isplitl [Hat']; · iexact Hat'
  isplitl [Htok']; · iexact Htok'
  iexact Hcred'

end Cert.Proof
end
-- ==== Proof.Region.lean ====
/-
  The TensorCore's pipeline: the one point that computes the table of transformed rows, as a region of the main program
  entered while the TensorCore owes its signals to the SparseCores.
-/
module

public import proofs.«01_k».proof.Proof.Launch
public import Idealize.ShloMosaic.Lib.VecWindow
public import Idealize.ShloMosaic.Lib.Pipeline.RegionsLoop

@[expose] public section

noncomputable section

namespace Cert.Proof

open Cert.KernelIdeal Cert.KernelIdeal.Gen

open Idealize.ShloMosaic Idealize.ShloMosaic.ValueIdx Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic
open Idealize.ShloMosaic.Pipeline (Dat Cfg Window BodyObligation cellOf)

variable {F : FTy → Type} [FloatOps F]

local notation "𝕄" => MM F

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body: the three operands' buffers come back as they were, the result's holds the transformed rows of what they hold. -/
theorem tab_run (c : Dev nD) (M0 : Memref sig .tc .vmem S1000x128 .f32) (h0 : M0.IsWhole) (M1 : Memref sig .tc .vmem S128x128 .f32) (h1 : M1.IsWhole)
    (M2 : Memref sig .tc .vmem S1x128 .f32) (h2 : M2.IsWhole) (M3 : Memref sig .tc .vmem S1000x128 .f32) (h3 : M3.IsWhole)
    (f0 : Bf (F := F) c M0) (f1 : Bf (F := F) c M1) (f2 : Bf (F := F) c M2) (f3 : Bf (F := F) c M3) (E : Set ℕ) (Q : PUnit → sProp (MM F)) :
    iprop(pt c M0 f0 ∗ pt c M1 f1 ∗ pt c M2 f2 ∗ pt c M3 f3
        ∗ (iprop(pt c M0 f0 ∗ pt c M1 f1 ∗ pt c M2 f2
            ∗ ∃ W, ⌜M3.view.read (Elt F) W = k0_pay1 (M0.view.read (Elt F) f0) (M1.view.read (Elt F) f1) (M2.view.read (Elt F) f2)⌝ ∗ pt c M3 W) -∗ Q ⟨⟩))
      ⊢ wp frame (wpE (defs₀ (F := F)) Variants.none c none) E (cc0__transform_body M0 h0 M1 h1 M2 h2 M3 h3) Q := by
  iintro ⟨H0, H1, H2, H3, Hk⟩
  rw [cc0__transform_body_eq_skeleton]; unfold cc0__transform_body_skel
  sl_exec!
  sl_step
  iapply Hk
  isplitl [H0]; · iexact H0
  isplitl [H1]; · iexact H1
  isplitl [H2]; · iexact H2
  iexists _; isplitr; swap; · iexact H3
  ipureintro
  refine (View.read_writes_full M3.view _ _ _ _).trans ?_
  congr 1
  · exact View.readAt_full M0.view _ _
  · exact View.readAt_full M1.view _ _
  · exact View.readAt_full M2.view _ _

variable (V : (c : Dev nD) → (b : Ref sig .tc) → Buf (Elt F) ((c : Thread nD τ).loc b))

/-- The table the region computes from the buffers' contents. -/
abbrev newTab (c : Dev nD) : Tab F := k0_pay1 (V c main_arg1 : Vec F S1000x128 .f32) (V c main_arg2 : Vec F S128x128 .f32) (V c main_v0 : Vec F S1x128 .f32)

/-- An operand's block, read through its window's view. -/
abbrev stg (c : Dev nD) (w : Fin 4) := ((cfg0.win w).blk t0_0).view.read (Elt F) (V c (Pipeline.arrRef spec0 w))

/-- Each window's one block is its whole array. -/
theorem blk_0 (f : Buf (Elt F) (((0 : Dev nD) : Thread nD τ).loc main_arg1)) : ((cfg0.win 0).blk t0_0).view.read (Elt F) f = f :=
  Memref.read_access_unit_zero (Elt F) main_arg1 (show (fun a => (win0_0.index t0_0) a * main_arg1.ty.shape.size a) = fun _ => 0 from
    funext fun a => by fin_cases a <;> decide) (fun a => by fin_cases a <;> decide) f
theorem blk_1 (f : Buf (Elt F) (((0 : Dev nD) : Thread nD τ).loc main_arg2)) : ((cfg0.win 1).blk t0_0).view.read (Elt F) f = f :=
  Memref.read_access_unit_zero (Elt F) main_arg2 (show (fun a => (win0_1.index t0_0) a * main_arg2.ty.shape.size a) = fun _ => 0 from
    funext fun a => by fin_cases a <;> decide) (fun a => by fin_cases a <;> decide) f
theorem blk_2 (f : Buf (Elt F) (((0 : Dev nD) : Thread nD τ).loc main_v0)) : ((cfg0.win 2).blk t0_0).view.read (Elt F) f = f :=
  Memref.read_access_unit_zero (Elt F) main_v0 (show (fun a => (win0_2.index t0_0) a * main_v0.ty.shape.size a) = fun _ => 0 from
    funext fun a => by fin_cases a <;> decide) (fun a => by fin_cases a <;> decide) f
theorem blk_3 (f : Buf (Elt F) (((0 : Dev nD) : Thread nD τ).loc main_v1)) : ((cfg0.win 3).blk t0_0).view.read (Elt F) f = f :=
  Memref.read_access_unit_zero (Elt F) main_v1 (show (fun a => (win0_3.index t0_0) a * main_v1.ty.shape.size a) = fun _ => 0 from
    funext fun a => by fin_cases a <;> decide) (fun a => by fin_cases a <;> decide) f

/-- The pairs a TensorCore may have recorded: those at or below level `b`. -/
abbrev below (c : Dev nD) (b : ℕ) : Set (SemLoc sig × HIx 1) := {p | (K (F := F)).lev ((c : Thread nD τ), p.1) p.2 ≤ b}

variable (b : ℕ)

/-- The region's proof data: the arrays at the valuation; after the body each operand's buffer as fetched and the result's at
    the new table; the TensorCore's debts as they are at the first call. -/
def dat (c : Dev nD) : Dat τ (Elt F) (HIx 1) ℕ UU ℕ cfg0 c where
  A w := V c (Pipeline.arrRef spec0 w)
  after w _ := match w with
    | ⟨0, _⟩ => stg V c 0
    | ⟨1, _⟩ => stg V c 1
    | ⟨2, _⟩ => stg V c 2
    | ⟨3, _⟩ => newTab V c
  Φ _ := Pipeline.scopedRest (Ix := HIx 1) (Name := ℕ) (U := UU) (Lvl := ℕ) (Val := Elt F) spec0 c
  q _ := fullShare
  owed _ := (K (F := F)).Otc c 0
  recorded _ := below (F := F) c b

theorem before_0 (c : Dev nD) (d : (cfg0.win 0).block.Idx → Elt F (cfg0.win 0).elt) : (dat V b c).before 0 t0_0 d = stg V c 0 := by
  unfold Dat.before; rw [if_pos (by decide)]; rfl
theorem before_1 (c : Dev nD) (d : (cfg0.win 1).block.Idx → Elt F (cfg0.win 1).elt) : (dat V b c).before 1 t0_0 d = stg V c 1 := by
  unfold Dat.before; rw [if_pos (by decide)]; rfl
theorem before_2 (c : Dev nD) (d : (cfg0.win 2).block.Idx → Elt F (cfg0.win 2).elt) : (dat V b c).before 2 t0_0 d = stg V c 2 := by
  unfold Dat.before; rw [if_pos (by decide)]; rfl

/-- The body's obligation at the one point. -/
theorem body_obligation (c : Dev nD) : BodyObligation (dat V b c) (defs₀ (F := F)) 𝒱₀ none Set.univ := fun t => by
  obtain rfl := fin_N0 t
  rw [bigSep_W0, bigSep_W0]
  simp only [owns_whole_eq]
  rw [show (dat V b c).Φ t0_0.succ = (dat V b c).Φ t0_0.castSucc from rfl,
    show (dat V b c).owesAt none t0_0.succ = (dat V b c).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  iapply (tab_run c (stage0_0 0) (hstage0_0 0) (stage0_1 0) (hstage0_1 0) (stage0_2 0) (hstage0_2 0) (stage0_3 0) (hstage0_3 0) (stg V c 0) (stg V c 1) (stg V c 2) f3 Set.univ _)
  isplitl [H0]; · iexact H0
  isplitl [H1]; · iexact H1
  isplitl [H2]; · iexact H2
  isplitl [H3]; · iexact H3
  iintro ⟨H0, H1, H2, ⟨%W, %hW, H3⟩⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3)
  ipureintro; dsimp only [dat]
  obtain rfl : c = 0 := Subsingleton.elim _ _
  have e : W = k0_pay1 (stg V 0 0) (stg V 0 1) (stg V 0 2) := hW
  rw [e]
  exact congr (congr (congrArg k0_pay1 (blk_0 (V 0 main_arg1))) (blk_1 (V 0 main_arg2))) (blk_2 (V 0 main_v0))

/-- The result's array after the region: the new table. -/
theorem final_tab (c : Dev nD) : (dat V b c).arrAt 3 cfg0.N = newTab V c := by
  obtain rfl : c = 0 := Subsingleton.elim _ _
  have hw : ((cfg0.win 3).blk t0_0).view.read (Elt F) ((dat V b 0).arrAt 3 cfg0.N) = (dat V b 0).flushed 3 t0_0 := by
    rw [show cfg0.N = t0_0.val + 1 from rfl, (dat V b 0).arrAt_succ (3 : Fin 4) t0_0, flush0_3, if_pos rfl]
    exact View.read_write_univ _ _
  exact (blk_3 _).symm.trans (hw.trans (funext fun _ => rfl))

def pdats : (p : Fin 1) → (c : Dev nD) → Dat τ (Elt F) (HIx 1) ℕ UU ℕ (Pipeline.pin (pcfgs (F := F)) adm p) c
  | ⟨0, _⟩ => fun c => dat V b c

variable (Vp : (c : Dev nD) → (b : Ref sig .tc) → Buf (Elt F) ((c : Thread nD τ).loc b))

/-- A TensorCore owes nothing at the pairs of its own waits. -/
theorem debts_none (c : Dev nD) (n : ℕ) (g : GSem nD τ sig) : (K (F := F)).Otc c n g none = 0 := by
  by_contra h
  have := (K (F := F)).lev_of_Otc_pos (Nat.pos_of_ne_zero h)
  rw [(K (F := F)).lev_none] at this
  omega

/-- What the TensorCore owes during the region, its recorded pairs bounded. -/
abbrev owing (c : Dev nD) : sProp 𝕄 := iprop(∃ W, ⌜(K (F := F)).WBelow (SparseCore.T c) W b⌝ ∗ owes (SparseCore.T c) ((K (F := F)).Otc c 0) W)

set_option backward.isDefEq.respectTransparency.types false in
/-- The region over the thread state "every unscoped buffer at `V`, the TensorCore's debts": left with the result's array at
    the new table. -/
def reg (hVp_out : ∀ c, Vp c main_v1 = newTab V c) (hVp_ne : ∀ c (r : Ref sig .tc), r ≠ main_v1 → Vp c r = V c r) :
    Pipeline.RegionSeg (pcfgs (F := F)) adm (pdats V b) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V b c).loose
  hwaits c := Pipeline.cellsWaits_intro (Pipeline.pin (pcfgs (F := F)) adm) (pdats V b) none 0 c fun w s t =>
    (K (F := F)).mayWait_none _ (debts_none (F := F) c 0)
  pre c := iprop(unscopedBufs c (V c) ∗ owing (F := F) b c)
  post c := iprop(unscopedBufs c (Vp c) ∗ owing (F := F) b c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V b) launch0.win launch0.arr_whole c
      ((pdats V b 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V b 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V b 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V b) ((pdats V b 0 c).share_full fun _ => rfl) (V c) (Vp c) ((pdats V b 0 c).arrAt · cfg0.N)
      (fun w => by
        fin_cases w
        · exact ((pdats V b 0 c).arrAt_in 0 rfl _).trans (hVp_ne c main_arg1 (by decide)).symm
        · exact ((pdats V b 0 c).arrAt_in 1 rfl _).trans (hVp_ne c main_arg2 (by decide)).symm
        · exact ((pdats V b 0 c).arrAt_in 2 rfl _).trans (hVp_ne c main_v0 (by decide)).symm
        · exact (final_tab V b c).trans (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, h⟩
    · exact h
    · rw [h]; exact Nat.zero_le _

end Cert.Proof
end
-- ==== Proof.Run.lean ====
/-
  The program on the TensorCore, and its run: the bias reshaped, the table of transformed rows, the indices transposed, the
  SparseCore call, the result transposed; then every final memory's result and the arguments unchanged.
-/
module

public import proofs.«01_k».proof.Proof.Region

@[expose] public section

noncomputable section

namespace Cert.Proof

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic
open Idealize.ShloMosaic.TcCoe

variable {F : FTy → Type} [FloatOps F]

local notation "𝕄" => MM F

variable (m : (ℓ : Loc nD τ sig) → Buf (Elt F) ℓ) (ρ : Dev nD → PrngReg)

/-! ## The buffers at the two ends of each step -/

abbrev tl (d : Dev nD) (r : Ref sig .tc) : Loc nD τ sig := (SparseCore.T d).loc r

/-- A TensorCore's unscoped buffers, one by one. -/
theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1)
      ∗ (tl d main_arg2 ↦{fullShare} W main_arg2) ∗ (tl d main_arg3 ↦{fullShare} W main_arg3) ∗ (tl d main_v0 ↦{fullShare} W main_v0)
      ∗ (tl d main_v1 ↦{fullShare} W main_v1) ∗ (tl d main_v2 ↦{fullShare} W main_v2) ∗ (tl d main_v3 ↦{fullShare} W main_v3)
      ∗ tl d main_v4 ↦{fullShare} W main_v4) := by
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The bias as a row. -/
abbrev rowF (d : Dev nD) : Vec F S1x128 .f32 := shapeCast S1x128 (m (tl d main_arg3) : Vec F S128 .f32) shapeCasts_S128_S1x128
/-- The result: the gathered rows, back in the order of the indices. -/
def resF (d : Dev nD) : Vec F S16384x50x128 .f32 := transpose S16384x50x128 [1, 0, 2] (outF m d) transposes_S50x16384x128_S16384x50x128_1_0_2

/-- The buffers before the region: at the launch's contents, the bias's row written. -/
def V1 (c : Dev nD) : (b : Ref sig .tc) → Buf (Elt F) ((c : Thread nD τ).loc b) :=
  Function.update (fun b => m ((c : Thread nD τ).loc b)) main_v0 (rowF m c)
/-- And after it: the table of transformed rows written. -/
def V2 (c : Dev nD) : (b : Ref sig .tc) → Buf (Elt F) ((c : Thread nD τ).loc b) :=
  Function.update (V1 m c) main_v1 (newTab (V1 m) c)

theorem V1_ne (c : Dev nD) {r : Ref sig .tc} (h : r ≠ main_v0) : V1 m c r = m (tl c r) := Function.update_of_ne h _ _
theorem V1_v0 (c : Dev nD) : V1 m c main_v0 = rowF m c := Function.update_self _ _ _
theorem V2_ne (c : Dev nD) {r : Ref sig .tc} (h : r ≠ main_v1) : V2 m c r = V1 m c r := Function.update_of_ne h _ _
theorem V2_v1 (c : Dev nD) : V2 m c main_v1 = newTab (V1 m) c := Function.update_self _ _ _

/-- The region's table is the table of transformed rows. -/
theorem newTab_eq (c : Dev nD) : newTab (V1 m) c = tabF m c := by
  unfold newTab tabF tabOf
  rw [V1_ne m c (show main_arg1 ≠ main_v0 by decide), V1_ne m c (show main_arg2 ≠ main_v0 by decide), V1_v0]

/-! ## A host operation on two buffers -/

include m in
/-- An operation that reads one buffer and writes another: the second left at the operation's value. -/
theorem wp_two (d : Dev nD) (x y : Ref sig .tc) (hne : x ≠ y) (op : HloOp τ sig (Elt F)) (hb : op.bufs = {Proc.devRef .tc x, Proc.devRef .tc y})
    (hf : op.fresh = ∅) (hw : op.writes = {Proc.devRef .tc y}) (a : Buf (Elt F) (tl d x)) (b : Buf (Elt F) (tl d y)) (z : Buf (Elt F) (tl d y))
    (hz : ∀ V : Valuation τ sig (Elt F), V (Proc.devRef .tc x) = a → op.result V (Proc.devRef .tc y) = z) (Ψ : PUnit → sProp 𝕄) :
    iprop(boundary (SparseCore.T d) ∗ (tl d x ↦{fullShare} a) ∗ (tl d y ↦{fullShare} b)
        ∗ (iprop(boundary (SparseCore.T d) ∗ (tl d x ↦{fullShare} a) ∗ (tl d y ↦{fullShare} z)) -∗ Ψ ⟨⟩))
      ⊢ wp frame (wpE ((K (F := F)).defs (D (F := F))) 𝒱 (SparseCore.T d) none) Set.univ (hlo rfl op (fun _ => .ret ⟨⟩)) Ψ := by
  have hdv : (Proc.devRef .tc x : DevRef τ sig) ≠ Proc.devRef .tc y := fun e => hne (Proc.devRef_injective _ e)
  let W : Valuation τ sig (Elt F) := Function.update (Function.update (fun r => m (d, r)) (Proc.devRef .tc x) a) (Proc.devRef .tc y) b
  have hx : W (Proc.devRef .tc x) = a := (Function.update_of_ne hdv _ _).trans (Function.update_self _ _ _)
  have hy : W (Proc.devRef .tc y) = b := Function.update_self _ _ _
  have e1 : (StableHlo.held (SparseCore.T d) op.bufs W : sProp 𝕄) = iprop((tl d x ↦{fullShare} a) ∗ (tl d y ↦{fullShare} b)) := by
    unfold StableHlo.held
    rw [hb, SparseCore.bigSep_insert' (by simpa using hdv), bigSep_singleton, hx, hy]
  have e2 : (StableHlo.held (SparseCore.T d) op.bufs (op.result W) : sProp 𝕄) = iprop((tl d x ↦{fullShare} a) ∗ (tl d y ↦{fullShare} z)) := by
    unfold StableHlo.held
    rw [hb, SparseCore.bigSep_insert' (by simpa using hdv), bigSep_singleton, hz W hx,
      op.result_of_not_mem W (by rw [hw]; simpa using hdv), hx]
  have h := StableHlo.wp_hlo_within (defs := (K (F := F)).defs (D (F := F))) (Name := ℕ) (U := UU) (Ix := HIx 1) (Lvl := ℕ) 𝒱 (SparseCore.T d) none Set.univ (hp := rfl) (op := op) (k := fun _ => .ret (⟨⟩ : PUnit)) (S := op.bufs)
    subset_rfl (V := W) (Q := Ψ) hf
  rw [e1, e2] at h
  iintro ⟨Hb, Hx, Hy, Hk⟩
  iapply h $$ [Hb Hx Hy]
  · isplitl [Hb]; · iexact Hb
    isplitl [Hx] <;> iassumption
  iintro H
  rw [wp_ret]
  imodintro
  iapply Hk; iexact H

/-! ## The region -/

section Region
variable [∀ e, Nonempty (Elt F e)]

/-- The call of the table's kernel: the unscoped buffers from before it to after it, the TensorCore's debts kept. -/
theorem wp_table (d : Dev nD) (b : ℕ) (Ψ : PUnit → sProp 𝕄) :
    iprop(boundary (SparseCore.T d) ∗ unscopedBufs d (V1 m d) ∗ owing (F := F) b d ∗ levAts (K (F := F)).L (K (F := F)).lev ∗ G d
        ∗ (iprop(boundary (SparseCore.T d) ∗ unscopedBufs d (V2 m d) ∗ owing (F := F) b d) -∗ Ψ ⟨⟩))
      ⊢ wp frame (wpE ((K (F := F)).defs (D (F := F))) 𝒱 (SparseCore.T d) none) Set.univ
          (Prog.lift (.customCall (SparseCore.inner (Pipeline.entry 0)) ())) Ψ := by
  have h := Pipeline.RegionSeg.wp (pcfgs (F := F)) adm (pdats (V1 m) b) none pinj EP defs₀ 𝒱₀ (K (F := F)).L (K (F := F)).lev
    (reg (V1 m) b (V2 m) (V2_v1 m) fun c r hr => V2_ne m c hr) d none (fun _ hu => nomatch hu) (fun _ => .ret (⟨⟩ : PUnit)) Ψ
  rw [show (reg (V1 m) b (V2 m) (V2_v1 m) fun c r hr => V2_ne m c hr).pre d = iprop(unscopedBufs d (V1 m d) ∗ owing (F := F) b d) from rfl,
    show (reg (V1 m) b (V2 m) (V2_v1 m) fun c r hr => V2_ne m c hr).post d = iprop(unscopedBufs d (V2 m d) ∗ owing (F := F) b d) from rfl] at h
  have hl := (K (F := F)).wp_liftProg (D (F := F)) 𝒱 (Name := ℕ) (U := UU) (SparseCore.T d) Set.univ none
    (.op (.customCall (Pipeline.entry 0) ()) (fun _ => .ret (⟨⟩ : PUnit))) Ψ
  refine BIBase.Entails.trans ?_ hl
  refine BIBase.Entails.trans ?_ h
  unfold G
  iintro ⟨Hb, Hu, Ho, Hl, ⟨Hg, Ht⟩, Hk⟩
  isplitl [Hk]
  · iintro ⟨Hb, Hu, Ho⟩
    rw [wp_ret]; imodintro
    iapply Hk
    isplitl [Hb]; · iexact Hb
    isplitl [Hu] <;> iassumption
  isplitl [Hb]; · iexact Hb
  isplitl [Hu Ho]; · isplitl [Hu] <;> iassumption
  isplitl [Hl]; · iexact Hl
  isplitl [Hg] <;> iassumption

/-! ## What the SparseCore call takes and brings back -/

abbrev CI : Type := Fin 2 × Fin 16

theorem tile_of_base {b x c i : ℕ} (hb : b = base c i) (h : b ≤ x ∧ x < b + 512) (hc : c < 2) : c = x / 512 % 2 ∧ i = x / 1024 := by
  unfold base at hb; omega

theorem oTiles_disjoint : ∀ p ∈ (Finset.univ : Finset CI), ∀ p' ∈ (Finset.univ : Finset CI), p ≠ p' →
    Disjoint (oTile (base p.1.val p.2.val)) (oTile (base p'.1.val p'.2.val)) := fun p _ p' _ hne =>
  Finset.disjoint_left.mpr fun x hx hx' => hne (Prod.ext
    (Fin.ext ((tile_of_base rfl (mem_oTile.mp hx) p.1.isLt).1.trans (tile_of_base rfl (mem_oTile.mp hx') p'.1.isLt).1.symm))
    (Fin.ext ((tile_of_base rfl (mem_oTile.mp hx) p.1.isLt).2.trans (tile_of_base rfl (mem_oTile.mp hx') p'.1.isLt).2.symm)))
theorem xTiles_disjoint : ∀ p ∈ (Finset.univ : Finset CI), ∀ p' ∈ (Finset.univ : Finset CI), p ≠ p' →
    Disjoint (xTile (base p.1.val p.2.val)) (xTile (base p'.1.val p'.2.val)) := fun p _ p' _ hne =>
  Finset.disjoint_left.mpr fun x hx hx' => hne (Prod.ext
    (Fin.ext ((tile_of_base rfl (mem_xTile.mp hx) p.1.isLt).1.trans (tile_of_base rfl (mem_xTile.mp hx') p'.1.isLt).1.symm))
    (Fin.ext ((tile_of_base rfl (mem_xTile.mp hx) p.1.isLt).2.trans (tile_of_base rfl (mem_xTile.mp hx') p'.1.isLt).2.symm)))

theorem exists_tile (x : ℕ) (hx : x < 16384) : ∃ p : CI, base p.1.val p.2.val ≤ x ∧ x < base p.1.val p.2.val + 512 :=
  ⟨(⟨x / 512 % 2, by omega⟩, ⟨x / 1024, by omega⟩), by unfold base; dsimp only; omega⟩

theorem oTiles_cover : (Finset.univ : Finset CI).biUnion (fun p => oTile (base p.1.val p.2.val)) = Finset.univ :=
  Finset.eq_univ_of_forall fun x => by
    obtain ⟨p, hp⟩ := exists_tile (x 1).val (x 1).isLt
    exact Finset.mem_biUnion.mpr ⟨p, Finset.mem_univ _, mem_oTile.mpr hp⟩
theorem xTiles_cover : (Finset.univ : Finset CI).biUnion (fun p => xTile (base p.1.val p.2.val)) = Finset.univ :=
  Finset.eq_univ_of_forall fun x => by
    obtain ⟨p, hp⟩ := exists_tile (x 1).val (x 1).isLt
    exact Finset.mem_biUnion.mpr ⟨p, Finset.mem_univ _, mem_xTile.mpr hp⟩

/-- The indices, and the output, as all the tiles' parts. -/
theorem xPts_tiles (d : Dev nD) (f : Buf (Elt F) (xLoc d)) :
    (xLoc d ↦{fullShare} f : sProp 𝕄) = bigSep Finset.univ fun c : Fin 2 => bigSep Finset.univ fun i : Fin 16 => xLoc d ↦[xTile (base c.val i.val)]{fullShare} f := by
  rw [← bigSep_univ_prod (fun p : CI => (xLoc d ↦[xTile (base p.1.val p.2.val)]{fullShare} f : sProp 𝕄)),
    ← pointsTo_biUnion Finset.univ (ℓ := xLoc d) (fun p : CI => xTile (base p.1.val p.2.val)) xTiles_disjoint, xTiles_cover]; try rfl
theorem oPts_tiles (d : Dev nD) (f : Buf (Elt F) (oLoc d)) :
    (oLoc d ↦{fullShare} f : sProp 𝕄) = bigSep Finset.univ fun c : Fin 2 => bigSep Finset.univ fun i : Fin 16 => oLoc d ↦[oTile (base c.val i.val)]{fullShare} f := by
  rw [← bigSep_univ_prod (fun p : CI => (oLoc d ↦[oTile (base p.1.val p.2.val)]{fullShare} f : sProp 𝕄)),
    ← pointsTo_biUnion Finset.univ (ℓ := oLoc d) (fun p : CI => oTile (base p.1.val p.2.val)) oTiles_disjoint, oTiles_cover]; try rfl

/-- What the call takes: the table, the indices and the output, whole. -/
theorem st0_eq (d : Dev nD) : (bigSep Finset.univ fun c : Fin ((K (F := F)).nCore 0) => (P m).st 0 d c)
    = iprop((eLoc d ↦{fullShare} (tabF m d : Buf (Elt F) (eLoc d))) ∗ (xLoc d ↦{fullShare} (idsF m d : Buf (Elt F) (xLoc d))) ∗ oLoc d ↦{fullShare} m (oLoc d)) := by
  rw [xPts_tiles, oPts_tiles, pointsTo_piecesOf (ℓ := eLoc d) (o := 2) Finset.univ (tabF m d) (by decide) fullShare, ← bigSep_sep', ← bigSep_sep']
  refine bigSep_congr fun c _ => ?_
  rw [← bigSep_sep']
  rfl

/-- The barrier's semaphores of the call's tiles, at zero. -/
abbrev bars (d : Dev nD) : sProp 𝕄 := bigSep Finset.univ fun c : Fin 2 => bigSep Finset.univ fun i : Fin 16 =>
  semVal (bcell d (coreOf (F := F) c) (subOf (F := F) i)) 0

/-- What it brings back: the gathered rows, and the barrier's semaphores at zero. -/
theorem dn0_eq (d : Dev nD) : (bigSep Finset.univ fun c : Fin ((K (F := F)).nCore 0) => (P m).dn 0 d c)
    = iprop((oLoc d ↦{fullShare} (outF m d : Buf (Elt F) (oLoc d))) ∗ bars (F := F) d) := by
  rw [oPts_tiles, ← bigSep_sep']
  refine bigSep_congr fun c _ => ?_
  rw [← bigSep_sep']
  rfl

/-! ## @main on the TensorCore -/

/-- What a TensorCore ends with: the arguments unchanged, the result, the barrier's semaphores at zero. -/
abbrev FIN (d : Dev nD) : sProp 𝕄 :=
  iprop((tl d main_arg0 ↦{fullShare} m (tl d main_arg0)) ∗ (tl d main_arg1 ↦{fullShare} m (tl d main_arg1))
    ∗ (tl d main_arg2 ↦{fullShare} m (tl d main_arg2)) ∗ (tl d main_arg3 ↦{fullShare} m (tl d main_arg3))
    ∗ (tl d main_v4 ↦{fullShare} (resF m d : Buf (Elt F) (tl d main_v4))) ∗ bars (F := F) d)

/-- The debts and recorded pairs of a TensorCore before the first call, taken out of its state and put back. -/
theorem tcSt_open (d : Dev nD) : ((K (F := F)).tcSt EH d 0 : sProp 𝕄) ⊢ iprop(∃ b, owing (F := F) b d ∗ (owing (F := F) b d -∗ (K (F := F)).tcSt EH d 0)) := by
  unfold SparseCore.Cfg.tcSt
  iintro ⟨Ho, Hrest⟩
  iexists _
  isplitl [Ho]; · iexact Ho
  iintro Ho
  isplitl [Ho]; · iexact Ho
  iexact Hrest

/-- @main on device `d`'s TensorCore, from the launch's buffers to the result. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, Hv0, Hv1, Hv2, Hv3, Hv4⟩, Hts, -⟩, HG⟩
  iapply (wp_two m d main_arg3 main_v0 (by decide) _ rfl rfl rfl (m (tl d main_arg3)) (m (tl d main_v0)) (rowF m d)
    (fun V hV => (StableHlo.reshape_result main_arg3 main_v0 rfl shapeCasts_S128_S1x128 _ _ V).trans (by rw [hV]; rfl)))
  isplitl [Hb]; · iexact Hb
  isplitl [H3]; · iexact H3
  isplitl [Hv0]; · iexact Hv0
  iintro ⟨Hb, H3, Hv0⟩
  ihave Ho := (tcSt_open d) $$ Hst
  icases Ho with ⟨%b, Ho, Hst⟩
  iapply (wp_table m d b)
  isplitl [Hb]; · iexact Hb
  isplitl [H0 H1 H2 H3 Hv0 Hv1 Hv2 Hv3 Hv4]
  · rw [unscopedBufs_eq, V1_ne m d (show main_arg0 ≠ main_v0 by decide), V1_ne m d (show main_arg1 ≠ main_v0 by decide),
      V1_ne m d (show main_arg2 ≠ main_v0 by decide), V1_ne m d (show main_arg3 ≠ main_v0 by decide), V1_v0,
      V1_ne m d (show main_v1 ≠ main_v0 by decide), V1_ne m d (show main_v2 ≠ main_v0 by decide),
      V1_ne m d (show main_v3 ≠ main_v0 by decide), V1_ne m d (show main_v4 ≠ main_v0 by decide)]
    isplitl [H0]; · iexact H0
    isplitl [H1]; · iexact H1
    isplitl [H2]; · iexact H2
    isplitl [H3]; · iexact H3
    isplitl [Hv0]; · iexact Hv0
    isplitl [Hv1]; · iexact Hv1
    isplitl [Hv2]; · iexact Hv2
    isplitl [Hv3] <;> iassumption
  isplitl [Ho]; · iexact Ho
  isplitr; · iapply ((K (F := F)).ctx_levAts κ); iexact Hctx
  isplitl [HG]; · iexact HG
  rw [unscopedBufs_eq, V2_v1, newTab_eq, V2_ne m d (show main_arg0 ≠ main_v1 by decide), V2_ne m d (show main_arg1 ≠ main_v1 by decide),
    V2_ne m d (show main_arg2 ≠ main_v1 by decide), V2_ne m d (show main_arg3 ≠ main_v1 by decide), V2_ne m d (show main_v0 ≠ main_v1 by decide),
    V2_ne m d (show main_v2 ≠ main_v1 by decide), V2_ne m d (show main_v3 ≠ main_v1 by decide), V2_ne m d (show main_v4 ≠ main_v1 by decide),
    V1_ne m d (show main_arg0 ≠ main_v0 by decide), V1_ne m d (show main_arg1 ≠ main_v0 by decide),
    V1_ne m d (show main_arg2 ≠ main_v0 by decide), V1_ne m d (show main_arg3 ≠ main_v0 by decide),
    V1_ne m d (show main_v2 ≠ main_v0 by decide),
    V1_ne m d (show main_v3 ≠ main_v0 by decide), V1_ne m d (show main_v4 ≠ main_v0 by decide)]
  iintro ⟨Hb, ⟨H0, H1, H2, H3, -, Hv1, Hv2, Hv3, Hv4⟩, Ho⟩
  ihave Hst := Hst $$ Ho
  iapply (wp_two m d main_arg0 main_v2 (by decide) _ rfl rfl rfl (m (tl d main_arg0)) (m (tl d main_v2)) (idsF m d)
    (fun V hV => (StableHlo.unary_result main_arg0 main_v2 _ _ _ V).trans (by rw [hV]; rfl)))
  isplitl [Hb]; · iexact Hb
  isplitl [H0]; · iexact H0
  isplitl [Hv2]; · iexact Hv2
  iintro ⟨Hb, H0, Hv2⟩
  iapply ((K (F := F)).wp_run (D (F := F)) 𝒱 (EH := EH) (P := P m) κ d 0)
  isplitr; · iexact Hctx
  isplitl [Hst]; · iexact Hst
  isplitl [Hv1 Hv2 Hv3]
  · rw [st0_eq]
    isplitl [Hv1]; · iexact Hv1
    isplitl [Hv2] <;> iassumption
  iintro ⟨Hst, Hdn⟩
  ihave Hdn' := (Entails.of_eq (dn0_eq m d)) $$ Hdn
  icases Hdn' with ⟨Hv3, Hbars⟩
  iapply (wp_two m d main_v3 main_v4 (by decide) _ rfl rfl rfl (outF m d) (m (tl d main_v4)) (resF m d)
    (fun V hV => (StableHlo.unary_result main_v3 main_v4 _ _ _ V).trans (by rw [hV]; rfl)))
  isplitl [Hb]; · iexact Hb
  isplitl [Hv3]; · iexact Hv3
  isplitl [Hv4]; · iexact Hv4
  iintro ⟨Hb, -, Hv4⟩
  imodintro
  isplitl [Hst]; · iexact Hst
  isplitr [Hb Hts]
  · isplitl [H0]; · iexact H0
    isplitl [H1]; · iexact H1
    isplitl [H2]; · iexact H2
    isplitl [H3]; · iexact H3
    isplitl [Hv4] <;> iassumption
  isplitl [Hb] <;> iassumption

/-! ## The final memory -/

def fq (d : Dev nD) (s' : Phys nD τ sig (Elt F)) : Prop :=
  s'.mem.mem (tl d main_arg0) = m (tl d main_arg0) ∧ s'.mem.mem (tl d main_arg1) = m (tl d main_arg1)
    ∧ s'.mem.mem (tl d main_arg2) = m (tl d main_arg2) ∧ s'.mem.mem (tl d main_arg3) = m (tl d main_arg3)
    ∧ s'.mem.mem (tl d main_v4) = resF m d
    ∧ ∀ (c : Fin 2) (i : Fin 16), s'.mem.sem (bcell d (coreOf (F := F) c) (subOf (F := F) i)) = 0

/-- A buffer held whole is the memory's. -/
theorem read_whole (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx =>
  ⟨((sep_mono_left sep_elim_left).trans (read_whole _ _ s')) x hx,
   ((sep_mono_left (sep_elim_right.trans sep_elim_left)).trans (read_whole _ _ s')) x hx,
   ((sep_mono_left (sep_elim_right.trans (sep_elim_right.trans sep_elim_left))).trans (read_whole _ _ s')) x hx,
   ((sep_mono_left (sep_elim_right.trans (sep_elim_right.trans (sep_elim_right.trans sep_elim_left)))).trans (read_whole _ _ s')) x hx,
   ((sep_mono_left (sep_elim_right.trans (sep_elim_right.trans (sep_elim_right.trans (sep_elim_right.trans sep_elim_left))))).trans (read_whole _ _ s')) x hx,
   fun c i => ((sep_mono_left (sep_elim_right.trans (sep_elim_right.trans (sep_elim_right.trans (sep_elim_right.trans (sep_elim_right.trans
      ((SparseCore.ent (bigSep_elim (Finset.mem_univ c))).trans (SparseCore.ent (bigSep_elim (Finset.mem_univ i)))))))))).trans
      (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2.2.2.2 c i

/-- The end of a run: the arguments unchanged, the result, every semaphore at zero. -/
def QC : PUnit × MemSt nD τ sig (Elt F) → Prop := fun r =>
  (∀ c : Dev nD, r.2.mem (tl c main_arg0) = m (tl c main_arg0) ∧ r.2.mem (tl c main_arg1) = m (tl c main_arg1)
    ∧ r.2.mem (tl c main_arg2) = m (tl c main_arg2) ∧ r.2.mem (tl c main_arg3) = m (tl c main_arg3)
    ∧ r.2.mem (tl c main_v4) = resF m c) ∧ r.2.sem = fun _ => 0

/-- Every run of the program ends there, when every index names a row of the table. -/
theorem run_main (hids : ∀ d x, (idsF m d x : BitVec 32).toNat < 1000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hids)
    (fun q _ => match q with | 0 => vecSplit m)
    m ρ main (fun d => G (F := F) d) (FIN m) (u₀ (F := F)) (hu₀ m) (hmain m ρ) (fq m) (hfin m) (QC m)
    (fun _ h hz => ⟨fun c => ⟨(h c).1, (h c).2.1, (h c).2.2.1, (h c).2.2.2.1, (h c).2.2.2.2.1⟩, hz⟩)

end Region

end Cert.Proof
end
-- ==== Proof.Frame.lean ====
/-
  The printed program and its idealization are one text, so one run serves both: their threads are equal and so are
  the bodies of their labels.
-/
module

public import proofs.«01_k».proof.Defs
public import proofs.«01_k».proof.Proof.Run
public import proofs.«01_k».proof.Proof.Gen.Kernel

@[expose] public section

noncomputable section

namespace Cert.Proof

open Idealize.ShloMosaic Idealize.SL.Sem

variable {F : FTy → Type} [FloatOps F]

/-- The two programs launch the same threads. -/
theorem same_threads : Cert.Kernel.threads (F := F) = Cert.KernelIdeal.threads (F := F) := rfl

/-- The two programs give each kernel label the same body, processor by processor. -/
theorem same_defs₀ : Cert.Kernel.defs₀ (F := F) = Cert.KernelIdeal.defs₀ (F := F) := by
  funext c l a
  match c, l, a with
  | .tc, 0, (t, s) => rfl
  | .tc, 1, a => rfl
  | .scVector c s, 0, a => rfl
  | .scVector c s, 1, a => rfl
  | .scScalar c, 0, a => rfl
  | .scScalar c, 1, a => rfl

/-- The two programs give every label the same body. -/
theorem same_defs : Cert.Kernel.defs (F := F) = Cert.KernelIdeal.defs (F := F) := by
  show Cert.KernelIdeal.sc.defs (Pipeline.defs Cert.KernelIdeal.pcfgs Cert.Kernel.defs₀) = _
  rw [same_defs₀]
  rfl

end Cert.Proof
end
-- ==== Proof.Equation.lean ====
/-
  The algebra: with every index a row's number, the array the program ends with is the reference's. Both are read at
  an index: the entry at batch `b`, position `h` and feature `o` is, on both sides, the greater of zero and
  `∑ k, E (x b h, k) * W (o, k) + bias o`.
-/
module

public import proofs.«01_k».proof.Defs
public import proofs.«01_k».proof.Proof.Run
public import proofs.«01_k».proof.Proof.Gen.Pre_in_range
public import proofs.«01_k».proof.Proof.Gen.ReferenceIdeal
public import Idealize.ShloMosaic.Lib.ReduceAll
public import Idealize.ShloMosaic.Lib.IdealHost
public import Idealize.ShloMosaic.Lib.MatmulPlain
public import Idealize.ShloMosaic.Lib.ValueIdx
public import Idealize.ShloMosaic.Lib.ValueLayout

@[expose] public section

set_option maxRecDepth 16384

noncomputable section

namespace Cert.Proof

open Cert.ReferenceIdeal Cert.ReferenceIdeal.Gen
open Idealize.ShloMosaic Idealize.ShloMosaic.ValueIdx Idealize.SL.Sem

variable {F : FTy → Type} [FloatOps F]

/-! ## Words in range -/

/-- A word at least zero and below 1000, as signed numbers, is below 1000 as an unsigned one. -/
theorem toNat_lt_of_test (v : BitVec 32) (h : IntOp.andi (IntOp.cmpi .sge v 0#32) (IntOp.cmpi .slt v 1000#32) = 1#1) :
    v.toNat < 1000 := by
  rw [IntOp.andi_eq_one] at h
  simp only [IntOp.cmpi_sge, IntOp.cmpi_slt] at h
  have ht := BitVec.toInt_eq_toNat_cond v
  simp only [BitVec.reduceToInt] at h
  split at ht <;> omega

/-- A word below 1000 has its unsigned value as its signed one. -/
theorem toInt_of_lt {v : BitVec 32} (h : v.toNat < 1000) : v.toInt = v.toNat := by
  have ht := BitVec.toInt_eq_toNat_cond v
  split at ht <;> omega

/-- The precondition bounds every index word. -/
theorem index_lt {x : IVec S16384x50 32} {e : FVec F S1000x128 .f32} {w : FVec F S128x128 .f32} {b : FVec F S128 .f32}
    (h : Cert.Pre_in_range.fn x e w b = fun _ => 1#1) (j : S16384x50.Idx) : (x j).toNat < 1000 := by
  have h0 := congrFun h (fun a => a.elim0)
  dsimp only [Cert.Pre_in_range.fn] at h0
  haveI : Subsingleton Cert.Pre_in_range.S_.Idx := ⟨fun a b => funext fun i => i.elim0⟩
  exact toNat_lt_of_test _ (Host.reduce_andi_all _ _ _ _ _ h0 j)

/-! ## The table at an index -/

/-- The table's entry at row `r` and feature `o`. -/
theorem tabOf_apply (e : FVec Ideal S1000x128 .f32) (w : FVec Ideal S128x128 .f32) (b : FVec Ideal S128 .f32) (r : Fin 1000) (o : Fin 128) :
    tabOf (F := Ideal) e w b (ix2 r o)
      = FloatOps.maximumf (F := Ideal) (φ := .f32) (FloatOps.addf (F := Ideal) (φ := .f32) (∑ k : Fin 128, e (ix2 r k) * w (ix2 o k)) (b (ix1 o)))
          (FloatOps.ofBits (F := Ideal) .f32 0x00000000#32) := by
  have hm : matmul (F := Ideal) Cert.KernelIdeal.dot_S1000x128_S128x128_S1000x128_1_1_0_0_n_n (some .fp32) e w (constant S1000x128 .f32 0x00000000#32) (ix2 r o)
      = ∑ k : Fin 128, e (ix2 r k) * w (ix2 o k) := by
    refine (Ideal.matmul_transposedRhs_apply (M := 1000) (K := 128) (N := 128) (some .fp32) e w (constant S1000x128 .f32 0x00000000#32) r o).trans ?_
    have hz : constant (F := Ideal) S1000x128 .f32 0x00000000#32 (ix2 r o) = (0 : EReal) := Ideal.ofBits_zero_f32
    rw [hz, zero_add]
  have hb : broadcastTo S1000x128 (shapeCast Cert.KernelIdeal.S1x128 (shapeCast Cert.KernelIdeal.S1x128 b Cert.KernelIdeal.Gen.shapeCasts_S128_S1x128)
      Cert.KernelIdeal.Gen.shapeCasts_S1x128_S1x128) Cert.KernelIdeal.Gen.broadcasts_S1x128_S1000x128 (ix2 r o) = b (ix1 o) := by
    rw [broadcastTo_1b_ab_apply, shapeCast_self, shapeCast_a_1a_apply]
  show FloatOps.maximumf (FloatOps.addf (matmul (F := Ideal) _ _ e w _ (ix2 r o)) (broadcastTo S1000x128 _ _ (ix2 r o))) _ = _
  rw [hm, hb]
  rfl

/-! ## The reference, read at an index -/

/-- The indices as the reference takes rows by them: a negative one counted from the table's end, one axis added. -/
def wrapOf (x : IVec S16384x50 32) : IVec S16384x50x1 32 :=
  broadcastInDim S16384x50x1 ![0, 1] bcast_S16384x50_S16384x50x1_0_1
    (select (cmpi .slt x (broadcastInDim S16384x50 ![] bcast_S_S16384x50 (constantI S_ 32 0#32)))
      (addi x (broadcastInDim S16384x50 ![] bcast_S_S16384x50 (constantI S_ 32 1000#32))) x)

/-- Where the reference finds an index to name a row. -/
def maskOf (x : IVec S16384x50 32) : IVec S16384x50x1 1 :=
  andi (cmpi .sge (wrapOf x) (broadcastInDim S16384x50x1 ![] bcast_S_S16384x50x1 (constantI S_ 32 0#32)))
    (cmpi .sle (wrapOf x) (broadcastInDim S16384x50x1 ![0, 1, 2] bcast_S1x1x1_S16384x50x1_0_1_2
      (broadcastInDim S1x1x1 ![2] bcast_S1_S1x1x1_2 (constantI S1 32 999#32))))

/-- The rows the reference takes: no number where an index names no row. -/
def takeOf (x : IVec S16384x50 32) (e : FVec F S1000x128 .f32) : FVec F S16384x50x128 .f32 :=
  select (broadcastInDim S16384x50x128 ![0, 1] bcast_S16384x50_S16384x50x128_0_1
      (Host.reduce IntOp.andi (maskOf x) (constantI S_ 1 1#1) reducesTo_S16384x50x1_S16384x50_d2 h_S_))
    (Host.gather gather_S1000x128_S16384x50x1_S16384x50x128_2_0_n_n_0_2_1128 e (wrapOf x))
    (broadcastInDim S16384x50x128 ![] bcast_S_S16384x50x128 (constant S_ .f32 0x7FC00000#32))

/-- The reference's result. -/
def refOf (x : IVec S16384x50 32) (e : FVec F S1000x128 .f32) (w : FVec F S128x128 .f32) (b : FVec F S128 .f32) : FVec F S16384x50x128 .f32 :=
  maximumf (addf (Host.dotGeneral dot_S16384x50x128_S128x128_S16384x50x128_2_1_01_0_n_n none (takeOf x e) w)
      (broadcastInDim S16384x50x128 ![0, 1, 2] bcast_S1x1x128_S16384x50x128_0_1_2 (broadcastInDim S1x1x128 ![2] bcast_S128_S1x1x128_2 b)))
    (broadcastInDim S16384x50x128 ![] bcast_S_S16384x50x128 (constant S_ .f32 0x00000000#32))

/-- An index in range is taken as it is. -/
theorem wrapOf_apply {x : IVec S16384x50 32} (hx : ∀ j, (x j).toNat < 1000) (b : Fin 16384) (h : Fin 50) (u : Fin 1) :
    wrapOf x (ix3 b h u) = x (ix2 b h) := by
  unfold wrapOf
  refine (broadcastInDim_apply _ _ _ (ix3 b h u) (ix2 b h) (fun a => match a with | ⟨0, _⟩ => rfl | ⟨1, _⟩ => rfl)).trans ?_
  show Scalar.select (IntOp.cmpi .slt (x (ix2 b h)) 0#32) _ (x (ix2 b h)) = _
  have hc : IntOp.cmpi .slt (x (ix2 b h)) 0#32 = 0#1 := by
    rcases BitVec.eq_zero_or_eq_one (IntOp.cmpi .slt (x (ix2 b h)) 0#32) with h' | h'
    · exact h'
    · rw [IntOp.cmpi_slt, toInt_of_lt (hx _)] at h'
      simp only [BitVec.reduceToInt] at h'
      omega
  rw [hc, select_zero]

/-- Every index in range passes the reference's test. -/
theorem maskOf_apply {x : IVec S16384x50 32} (hx : ∀ j, (x j).toNat < 1000) (y : S16384x50x1.Idx) : maskOf x y = 1#1 := by
  obtain ⟨b, h, u, rfl⟩ : ∃ (b : Fin 16384) (h : Fin 50) (u : Fin 1), y = ix3 b h u := ⟨y 0, y 1, y 2, eq_ix3 y⟩
  show IntOp.andi (IntOp.cmpi .sge (wrapOf x (ix3 b h u)) 0#32) (IntOp.cmpi .sle (wrapOf x (ix3 b h u)) 999#32) = 1#1
  have h := hx (ix2 b h)
  rw [wrapOf_apply hx, IntOp.andi_eq_one, IntOp.cmpi_sge, IntOp.cmpi_sle, toInt_of_lt h]
  simp only [BitVec.reduceToInt]
  omega

/-- The gather's entry: the row the index names, clamped to the table's, at the same feature. -/
theorem gather_apply (e : FVec F S1000x128 .f32) (i : IVec S16384x50x1 32) (b : Fin 16384) (h : Fin 50) (o : Fin 128) :
    Host.gather gather_S1000x128_S16384x50x1_S16384x50x128_2_0_n_n_0_2_1128 e i (ix3 b h o)
      = e (ix2 (⟨min (i (ix3 b h (0 : Fin 1))).toInt.toNat 999, by omega⟩ : Fin 1000) o) := by
  have hr : (0 : Fin 2) ∈ gather_S1000x128_S16384x50x1_S16384x50x128_2_0_n_n_0_2_1128.startIndexMap := List.mem_singleton.mpr rfl
  have hn : (1 : Fin 2) ∉ gather_S1000x128_S16384x50x1_S16384x50x128_2_0_n_n_0_2_1128.startIndexMap := by decide
  have hk0 : (0 : Fin 2) ∉ gather_S1000x128_S16384x50x1_S16384x50x128_2_0_n_n_0_2_1128.sKept := by decide
  have hk1 : (1 : Fin 2) ∈ gather_S1000x128_S16384x50x1_S16384x50x128_2_0_n_n_0_2_1128.sKept := by decide
  have hs : gather_S1000x128_S16384x50x1_S16384x50x128_2_0_n_n_0_2_1128.siIdx (ix3 b h o) ⟨_, List.idxOf_lt_length_iff.2 hr⟩
      = ix3 b h (0 : Fin 1) := by
    funext a
    match a with
    | ⟨0, _⟩ => rfl
    | ⟨1, _⟩ => rfl
    | ⟨2, _⟩ => rfl
  unfold Host.gather
  refine congrArg e (funext fun a => Fin.ext ?_)
  match a with
  | ⟨0, _⟩ =>
    show gather_S1000x128_S16384x50x1_S16384x50x128_2_0_n_n_0_2_1128.start (ix3 b h o) i (0 : Fin 2) + gather_S1000x128_S16384x50x1_S16384x50x128_2_0_n_n_0_2_1128.batchCoord (ix3 b h o) (0 : Fin 2)
        + gather_S1000x128_S16384x50x1_S16384x50x128_2_0_n_n_0_2_1128.offCoord (ix3 b h o) (0 : Fin 2) = _
    rw [GatherDims.offCoord_eq_zero _ _ _ hk0, GatherDims.batchCoord_eq_zero _ _ _ List.not_mem_nil, GatherDims.start, dif_pos hr, hs]
    rfl
  | ⟨1, _⟩ =>
    show gather_S1000x128_S16384x50x1_S16384x50x128_2_0_n_n_0_2_1128.start (ix3 b h o) i (1 : Fin 2) + gather_S1000x128_S16384x50x1_S16384x50x128_2_0_n_n_0_2_1128.batchCoord (ix3 b h o) (1 : Fin 2)
        + gather_S1000x128_S16384x50x1_S16384x50x128_2_0_n_n_0_2_1128.offCoord (ix3 b h o) (1 : Fin 2) = _
    rw [GatherDims.batchCoord_eq_zero _ _ _ List.not_mem_nil, GatherDims.start, dif_neg hn, GatherDims.offCoord, dif_pos hk1, Nat.zero_add]
    rfl

/-- The rows taken, with every index in range. -/
theorem takeOf_apply {x : IVec S16384x50 32} (hx : ∀ j, (x j).toNat < 1000) (e : FVec F S1000x128 .f32) (b : Fin 16384) (h : Fin 50) (o : Fin 128) :
    takeOf x e (ix3 b h o) = e (ix2 (rowNo (x (ix2 b h))) o) := by
  unfold takeOf
  rw [select_apply, broadcastInDim_apply _ _ _ (ix3 b h o) (ix2 b h) (fun a => match a with | ⟨0, _⟩ => rfl | ⟨1, _⟩ => rfl),
    Host.reduce_andi_one _ _ _ _ _ rfl (maskOf_apply hx), select_one, gather_apply]
  refine congrArg (fun r : Fin 1000 => e (ix2 r o)) (Fin.ext ?_)
  have hv := hx (ix2 b h)
  show min (wrapOf x (ix3 b h (0 : Fin 1))).toInt.toNat 999 = (x (ix2 b h)).toNat % 1000
  rw [wrapOf_apply hx, toInt_of_lt hv, Int.toNat_natCast, Nat.mod_eq_of_lt hv]
  omega

/-- The reference's product at an index: a sum over the features. -/
theorem dot_apply (l : FVec Ideal S16384x50x128 .f32) (r : FVec Ideal S128x128 .f32) (b : Fin 16384) (h : Fin 50) (o : Fin 128) :
    Host.dotGeneral (F := Ideal) dot_S16384x50x128_S128x128_S16384x50x128_2_1_01_0_n_n none l r (ix3 b h o)
      = ∑ k : Fin 128, l (ix3 b h k) * r (ix2 o k) := by
  refine (Ideal.dotGeneral_apply _ _ _ l r (ix3 b h o)).trans ?_
  rw [← Equiv.sum_comp (contrEquiv1 dot_S16384x50x128_S128x128_S16384x50x128_2_1_01_0_n_n 128 rfl rfl).symm]
  refine Finset.sum_congr rfl fun k _ => ?_
  have hk := contrEquiv1_symm_val dot_S16384x50x128_S128x128_S16384x50x128_2_1_01_0_n_n 128 rfl rfl k
  congr 2
  · funext a
    match a with
    | ⟨0, _⟩ => rfl
    | ⟨1, _⟩ => rfl
    | ⟨2, _⟩ => exact Fin.ext hk
  · funext a
    match a with
    | ⟨0, _⟩ => rfl
    | ⟨1, _⟩ => exact Fin.ext hk

/-- The reference's entry at batch `b`, position `h` and feature `o`. -/
theorem refOf_apply {x : IVec S16384x50 32} (hx : ∀ j, (x j).toNat < 1000) (e : FVec Ideal S1000x128 .f32) (w : FVec Ideal S128x128 .f32)
    (c : FVec Ideal S128 .f32) (b : Fin 16384) (h : Fin 50) (o : Fin 128) :
    refOf x e w c (ix3 b h o)
      = FloatOps.maximumf (F := Ideal) (φ := .f32) (FloatOps.addf (F := Ideal) (φ := .f32)
          (∑ k : Fin 128, e (ix2 (rowNo (x (ix2 b h))) k) * w (ix2 o k)) (c (ix1 o))) (FloatOps.ofBits (F := Ideal) .f32 0x00000000#32) := by
  have hb : broadcastInDim S16384x50x128 ![0, 1, 2] bcast_S1x1x128_S16384x50x128_0_1_2 (broadcastInDim S1x1x128 ![2] bcast_S128_S1x1x128_2 c) (ix3 b h o)
      = c (ix1 o) := by
    rw [broadcastInDim_apply _ _ _ (ix3 b h o) (ix3 (0 : Fin 1) (0 : Fin 1) o) (fun a => match a with | ⟨0, _⟩ => rfl | ⟨1, _⟩ => rfl | ⟨2, _⟩ => rfl),
      broadcastInDim_apply _ _ _ (ix3 (0 : Fin 1) (0 : Fin 1) o) (ix1 o) (fun a => match a with | ⟨0, _⟩ => rfl)]
  show FloatOps.maximumf (FloatOps.addf (Host.dotGeneral (F := Ideal) _ none (takeOf x e) w (ix3 b h o)) (broadcastInDim S16384x50x128 _ _ _ (ix3 b h o))) _ = _
  rw [dot_apply, hb]
  simp only [takeOf_apply hx]
  rfl

/-! ## The two sides equal -/

/-- The transposed indices are the given ones, in another order. -/
theorem idsOf_apply (x : IVec S16384x50 32) (h : Fin 50) (b : Fin 16384) : idsOf (F := F) x (ix2 h b) = x (ix2 b h) := by
  unfold idsOf
  exact transpose_ix2_apply x _ h b

/-- The program's result is the reference's, when every index names a row of the table. -/
theorem gathered_eq_refOf {x : IVec S16384x50 32} (hx : ∀ j, (x j).toNat < 1000) (e : FVec Ideal S1000x128 .f32) (w : FVec Ideal S128x128 .f32)
    (c : FVec Ideal S128 .f32) :
    transpose Cert.KernelIdeal.S16384x50x128 [1, 0, 2] (rowsOf (F := Ideal) (tabOf (F := Ideal) e w c) (idsOf x)) Cert.KernelIdeal.Gen.transposes_S50x16384x128_S16384x50x128_1_0_2
      = refOf x e w c := by
  funext y
  obtain ⟨b, h, o, rfl⟩ : ∃ (b : Fin 16384) (h : Fin 50) (o : Fin 128), y = ix3 b h o := ⟨y 0, y 1, y 2, eq_ix3 y⟩
  rw [refOf_apply hx, transpose_apply _ _ _ (ix3 b h o) (ix3 h b o) (fun a => match a with | ⟨0, _⟩ => rfl | ⟨1, _⟩ => rfl | ⟨2, _⟩ => rfl)]
  show tabOf (F := Ideal) e w c (ix2 (rowNo (idsOf (F := Ideal) x (ix2 h b))) o) = _
  rw [idsOf_apply, tabOf_apply]

end Cert.Proof
end
-- ==== Proof.lean ====
/-
  The certificate of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- An index in range names a row, wherever the transposed indices put it. -/
theorem idsF_lt {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_in_range.fn (F := F) (m (tl c Cert.KernelIdeal.main_arg0)) (m (tl c Cert.KernelIdeal.main_arg1))
      (m (tl c Cert.KernelIdeal.main_arg2)) (m (tl c Cert.KernelIdeal.main_arg3)) = fun _ => 1#1)
    (d : Dev Cert.KernelIdeal.nD) (x : Cert.KernelIdeal.S50x16384.Idx) : (idsF m d x : BitVec 32).toNat < 1000 :=
  index_lt (h d) _

/-- The printed program's frame. -/
theorem frame_printed : Cert.quiescent_Kernel := fun m g h => by
  rw [same_defs, same_threads]
  exact (θ_run _ _ _).mono (fun r q => ⟨fun c => ⟨(q.1 c).1, (q.1 c).2.1, (q.1 c).2.2.1, (q.1 c).2.2.2.1⟩, q.2⟩)
    (run_main m g (idsF_lt m h))

/-- The idealized program's frame. -/
theorem frame_ideal : Cert.quiescent_KernelIdeal := fun m g h =>
  (θ_run _ _ _).mono (fun r q => ⟨fun c => ⟨(q.1 c).1, (q.1 c).2.1, (q.1 c).2.2.1, (q.1 c).2.2.2.1⟩, q.2⟩)
    (run_main m g (idsF_lt m h))

/-- The reference's frame. -/
theorem frame_reference : Cert.quiescent_ReferenceIdeal := fun m g _ =>
  (θ_run _ _ _).mono (fun r q => ⟨fun c => (q c).2, sem_eq_zero_of_no_sems (by decide) r.2⟩) (Cert.ReferenceIdeal.Value.run m g)

/-- The program and the reference end with equal results. -/
theorem same_results : Cert.algebraic_KernelIdeal_ReferenceIdeal := fun m g m' g' h hm =>
  ⟨fun c => resF m c,
    (θ_run _ _ _).mono (fun r q c => ⟨(q.1 c).2.2.2.2, (q.1 c).1, (q.1 c).2.1, (q.1 c).2.2.1, (q.1 c).2.2.2.1⟩) (run_main m g (idsF_lt m h)),
    (θ_run _ _ _).mono (fun r q c => ⟨(q c).1.trans (by
      rw [(hm c).1, (hm c).2.1, (hm c).2.2.1, (hm c).2.2.2]
      exact (gathered_eq_refOf (index_lt (h c)) _ _ _).symm), (q c).2⟩) (Cert.ReferenceIdeal.Value.run m' g')⟩

theorem claim : Cert.Claim := ⟨Cert.Kernel.Gen.facts, Cert.KernelIdeal.Gen.facts, Cert.ReferenceIdeal.Gen.facts, Cert.Pre_in_range.Gen.facts,
  frame_printed, frame_ideal, frame_reference, fun m g _ => frame_reference m g trivial, trivial, same_results⟩

end Cert.Proof

end
